-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_quaternions_zero_or_long [hPre_quaternions_zero_or_long : Cert.Pre_quaternions_zero_or_long.Facts] (m : (ℓ : Loc Cert.KernelIdeal.nD Cert.KernelIdeal.τ Cert.KernelIdeal.sig) → Buf (Elt Ideal) ℓ) : Prop :=
  ∀ c : Dev Cert.KernelIdeal.nD,
    (Cert.Pre_quaternions_zero_or_long.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_quaternions_zero_or_long [hPre_quaternions_zero_or_long : Cert.Pre_quaternions_zero_or_long.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_quaternions_zero_or_long.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_quaternions_zero_or_long [hKernelIdeal : Cert.KernelIdeal.Facts] [hPre_quaternions_zero_or_long : Cert.Pre_quaternions_zero_or_long.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_quaternions_zero_or_long m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_quaternions_zero_or_long [hReferenceIdeal : Cert.ReferenceIdeal.Facts] [hPre_quaternions_zero_or_long : Cert.Pre_quaternions_zero_or_long.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_quaternions_zero_or_long m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "amplitude_floor_sq" .f32 0x2B8CBCCC#32 ((77371252064649 / 77371252455336267181195264 : ℝ) : EReal)
  ∧ IdealRules.named_const.Statement Cert.KernelIdeal.κ "neg_half_log2e" .f32 0xBF38AA3B#32 (((-1 / 2) * (Real.log 2)⁻¹ : ℝ) : EReal)
  ∧ IdealRules.named_const.Statement Cert.KernelIdeal.κ "exponent_floor" .f32 0xC2F00000#32 ⊥

def algebraic_KernelIdeal_ReferenceIdeal_pre_quaternions_zero_or_long [hKernelIdeal : Cert.KernelIdeal.Facts] [hReferenceIdeal : Cert.ReferenceIdeal.Facts] [hPre_quaternions_zero_or_long : Cert.Pre_quaternions_zero_or_long.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_quaternions_zero_or_long m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_quaternions_zero_or_long : Cert.Pre_quaternions_zero_or_long.Facts),
    quiescent_Kernel (hKernel := hKernel)
    ∧ quiescent_KernelIdeal (hKernelIdeal := hKernelIdeal)
    ∧ quiescent_KernelIdeal_pre_quaternions_zero_or_long (hKernelIdeal := hKernelIdeal) (hPre_quaternions_zero_or_long := hPre_quaternions_zero_or_long)
    ∧ quiescent_ReferenceIdeal (hReferenceIdeal := hReferenceIdeal)
    ∧ quiescent_ReferenceIdeal_pre_quaternions_zero_or_long (hReferenceIdeal := hReferenceIdeal) (hPre_quaternions_zero_or_long := hPre_quaternions_zero_or_long)
    ∧ preserves_Kernel_KernelIdeal
    ∧ algebraic_KernelIdeal_ReferenceIdeal_pre_quaternions_zero_or_long (hKernelIdeal := hKernelIdeal) (hReferenceIdeal := hReferenceIdeal) (hPre_quaternions_zero_or_long := hPre_quaternions_zero_or_long)
-- ==== Pre_quaternions_zero_or_long.lean ====
abbrev S16384x3 : Shape := ⟨2, ![16384, 3]⟩
abbrev S16384x4 : Shape := ⟨2, ![16384, 4]⟩
abbrev S16384x2 : Shape := ⟨2, ![16384, 2]⟩
abbrev S_ : Shape := ⟨0, ![]⟩
abbrev S16384 : Shape := ⟨1, ![16384]⟩

class Facts : Prop where
  reducesTo_S16384x4_S16384_d1 : S16384x4.ReducesTo [1] S16384
  h_S_ : 0 < S_.numel
  bcast_S_S16384 : S_.BroadcastsInDim S16384 (![] : Fin 0 → Fin S16384.rank)

variable [Facts]

def fn_norm {F : FTy → Type} [FloatOps F] (arg0 : FVec F S16384x4 .f32) : FVec F S16384 .f32 :=
  let v0 : FVec F S16384x4 .f32 := mulf arg0 arg0
  let cst : FVec F S_ .f32 := constant S_ .f32 0x00000000#32
  let v1 : FVec F S16384 .f32 := (fun x v => Host.reduceAdd x v reducesTo_S16384x4_S16384_d1 h_S_) v0 cst
  let v2 : FVec F S16384 .f32 := Host.sqrt v1
  v2

def fn {F : FTy → Type} [FloatOps F] (main_arg0 : FVec F S16384x3 .f32) (main_arg1 : FVec F S16384x3 .f32) (main_arg2 : FVec F S16384x4 .f32) (main_arg3 : FVec F S16384x2 .f32) : IVec S16384 1 :=
  let main_v0 : FVec F S16384 .f32 := fn_norm (F := F) main_arg2
  let main_cst : FVec F S_ .f32 := constant S_ .f32 0x00000000#32
  let main_v1 : FVec F S16384 .f32 := broadcastInDim S16384 ![] bcast_S_S16384 main_cst
  let main_v2 : IVec S16384 1 := cmpf .oeq main_v0 main_v1
  let main_cst_0 : FVec F S_ .f32 := constant S_ .f32 0x358637BD#32
  let main_v3 : FVec F S16384 .f32 := broadcastInDim S16384 ![] bcast_S_S16384 main_cst_0
  let main_v4 : IVec S16384 1 := cmpf .oge main_v0 main_v3
  let main_v5 : IVec S16384 1 := ori main_v2 main_v4
  main_v5
-- ==== Kernel.lean ====
abbrev S16384x3 : Shape := ⟨2, ![16384, 3]⟩
abbrev S16384x4 : Shape := ⟨2, ![16384, 4]⟩
abbrev S16384x2 : Shape := ⟨2, ![16384, 2]⟩
abbrev S16384x1 : Shape := ⟨2, ![16384, 1]⟩
abbrev S16384 : Shape := ⟨1, ![16384]⟩
abbrev S_ : Shape := ⟨0, ![]⟩
abbrev S512x1x32 : Shape := ⟨3, ![512, 1, 32]⟩
abbrev S2x128x16x8x128 : Shape := ⟨5, ![2, 128, 16, 8, 128]⟩
abbrev S2x128x128x128 : Shape := ⟨4, ![2, 128, 128, 128]⟩
abbrev S1x1x32 : Shape := ⟨3, ![1, 1, 32]⟩
abbrev S32x1 : Shape := ⟨2, ![32, 1]⟩
abbrev S2x32x9x2x8x128 : Shape := ⟨6, ![2, 32, 9, 2, 8, 128]⟩
abbrev S32x1x1 : Shape := ⟨3, ![32, 1, 1]⟩
abbrev S1x16x1 : Shape := ⟨3, ![1, 16, 1]⟩
abbrev S32x16x1 : Shape := ⟨3, ![32, 16, 1]⟩
abbrev S1x1x128 : Shape := ⟨3, ![1, 1, 128]⟩
abbrev S32x1x128 : Shape := ⟨3, ![32, 1, 128]⟩
abbrev S32x16x128 : Shape := ⟨3, ![32, 16, 128]⟩
abbrev S32x2x8x128 : Shape := ⟨4, ![32, 2, 8, 128]⟩
abbrev S32x1x1x1 : Shape := ⟨4, ![32, 1, 1, 1]⟩
abbrev S1x32x1x2x8x128 : Shape := ⟨6, ![1, 32, 1, 2, 8, 128]⟩
abbrev S1x1x1 : Shape := ⟨3, ![1, 1, 1]⟩
abbrev S2x9x2x8x128 : Shape := ⟨5, ![2, 9, 2, 8, 128]⟩
abbrev S2x1x9x2x8x128 : Shape := ⟨6, ![2, 1, 9, 2, 8, 128]⟩

abbrev nBuf : Space → Nat
  | .hbm => 76
  | .vmem => 26
  | .smem => 4
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x4, .f32⟩
  | .hbm, ⟨3, _⟩ => ⟨S16384x2, .f32⟩
  | .hbm, ⟨4, _⟩ => ⟨S16384x1, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384, .f32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S512x1x32, .i32⟩
  | .hbm, ⟨28, _⟩ => ⟨S16384, .f32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S_, .i32⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S16384, .i32⟩
  | .hbm, ⟨50, _⟩ => ⟨S16384, .i32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S512x1x32, .i32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S2x128x16x8x128, .f32⟩
  | .hbm, ⟨74, _⟩ => ⟨S2x128x16x8x128, .f32⟩
  | .hbm, ⟨75, _⟩ => ⟨S2x128x128x128, .f32⟩
  | .local _ .vmem, ⟨0, _⟩ => ⟨S32x1, .f32⟩
  | .local _ .vmem, ⟨1, _⟩ => ⟨S32x1, .f32⟩
  | .local _ .vmem, ⟨2, _⟩ => ⟨S32x1, .f32⟩
  | .local _ .vmem, ⟨3, _⟩ => ⟨S32x1, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | .local _ .vmem, ⟨12, _⟩ => ⟨S32x1, .f32⟩
  | .local _ .vmem, ⟨13, _⟩ => ⟨S32x1, .f32⟩
  | .local _ .vmem, ⟨14, _⟩ => ⟨S32x1, .f32⟩
  | .local _ .vmem, ⟨15, _⟩ => ⟨S32x1, .f32⟩
  | .local _ .vmem, ⟨16, _⟩ => ⟨S32x1, .f32⟩
  | .local _ .vmem, ⟨17, _⟩ => ⟨S32x1, .f32⟩
  | .local _ .vmem, ⟨18, _⟩ => ⟨S32x1, .f32⟩
  | .local _ .vmem, ⟨19, _⟩ => ⟨S32x1, .f32⟩
  | .local _ .vmem, ⟨20, _⟩ => ⟨S32x1, .f32⟩
  | .local _ .vmem, ⟨21, _⟩ => ⟨S32x1, .f32⟩
  | .local _ .vmem, ⟨22, _⟩ => ⟨S32x1, .f32⟩
  | .local _ .vmem, ⟨23, _⟩ => ⟨S32x1, .f32⟩
  | .local _ .vmem, ⟨24, _⟩ => ⟨S2x128x16x8x128, .f32⟩
  | .local _ .vmem, ⟨25, _⟩ => ⟨S2x32x9x2x8x128, .f32⟩
  | .local _ .smem, ⟨0, _⟩ => ⟨S1x1x32, .i32⟩
  | .local _ .smem, ⟨1, _⟩ => ⟨S1x1x32, .i32⟩
  | .local _ .smem, ⟨2, _⟩ => ⟨S1x1x32, .i32⟩
  | .local _ .smem, ⟨3, _⟩ => ⟨S1x1x32, .i32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst_0 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_c : Ref sig .tc := ⟨.hbm, 16, rfl⟩
abbrev main_call0_v10 : Ref sig .tc := ⟨.hbm, 17, rfl⟩
abbrev main_call0_v11 : Ref sig .tc := ⟨.hbm, 18, rfl⟩
abbrev main_call0_c_1 : Ref sig .tc := ⟨.hbm, 19, rfl⟩
abbrev main_call0_c_2 : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_c_3 : Ref sig .tc := ⟨.hbm, 30, rfl⟩
abbrev main_call0_v16 : Ref sig .tc := ⟨.hbm, 31, rfl⟩
abbrev main_call0_v17 : Ref sig .tc := ⟨.hbm, 32, rfl⟩
abbrev main_call0_c_4 : Ref sig .tc := ⟨.hbm, 33, rfl⟩
abbrev main_call0_c_5 : Ref sig .tc := ⟨.hbm, 34, rfl⟩
abbrev main_call0_call1_v0 : Ref sig .tc := ⟨.hbm, 35, rfl⟩
abbrev main_call0_call1_v1 : Ref sig .tc := ⟨.hbm, 36, rfl⟩
abbrev main_call0_call1_v2 : Ref sig .tc := ⟨.hbm, 37, rfl⟩
abbrev main_call0_call1_v3 : Ref sig .tc := ⟨.hbm, 38, rfl⟩
abbrev main_call0_call1_v4 : Ref sig .tc := ⟨.hbm, 39, rfl⟩
abbrev main_call0_v18 : Ref sig .tc := ⟨.hbm, 40, rfl⟩
abbrev main_call0_c_6 : Ref sig .tc := ⟨.hbm, 41, rfl⟩
abbrev main_call0_call2_v0 : Ref sig .tc := ⟨.hbm, 42, rfl⟩
abbrev main_call0_call2_v1 : Ref sig .tc := ⟨.hbm, 43, rfl⟩
abbrev main_call0_call2_v2 : Ref sig .tc := ⟨.hbm, 44, rfl⟩
abbrev main_call0_call2_v3 : Ref sig .tc := ⟨.hbm, 45, rfl⟩
abbrev main_call0_call2_v4 : Ref sig .tc := ⟨.hbm, 46, rfl⟩
abbrev main_call0_call2_v5 : Ref sig .tc := ⟨.hbm, 47, rfl⟩
abbrev main_call0_call2_v6 : Ref sig .tc := ⟨.hbm, 48, rfl⟩
abbrev main_call0_call2_v7 : Ref sig .tc := ⟨.hbm, 49, rfl⟩
abbrev main_call0_call2_v8 : Ref sig .tc := ⟨.hbm, 50, rfl⟩
abbrev main_call0_call2_c : Ref sig .tc := ⟨.hbm, 51, rfl⟩
abbrev main_call0_call2_v9 : Ref sig .tc := ⟨.hbm, 52, rfl⟩
abbrev main_call0_call2_v10 : Ref sig .tc := ⟨.hbm, 53, rfl⟩
abbrev main_call0_call2_v11 : Ref sig .tc := ⟨.hbm, 54, rfl⟩
abbrev main_call0_call2_c_0 : Ref sig .tc := ⟨.hbm, 55, rfl⟩
abbrev main_call0_call2_v12 : Ref sig .tc := ⟨.hbm, 56, rfl⟩
abbrev main_call0_call2_v13 : Ref sig .tc := ⟨.hbm, 57, rfl⟩
abbrev main_call0_v19 : Ref sig .tc := ⟨.hbm, 58, rfl⟩
abbrev main_call0_v20 : Ref sig .tc := ⟨.hbm, 59, rfl⟩
abbrev main_call0_v21 : Ref sig .tc := ⟨.hbm, 60, rfl⟩
abbrev main_call0_v22 : Ref sig .tc := ⟨.hbm, 61, rfl⟩
abbrev main_call0_v23 : Ref sig .tc := ⟨.hbm, 62, rfl⟩
abbrev main_call0_v24 : Ref sig .tc := ⟨.hbm, 63, rfl⟩
abbrev main_call0_v25 : Ref sig .tc := ⟨.hbm, 64, rfl⟩
abbrev main_call0_v26 : Ref sig .tc := ⟨.hbm, 65, rfl⟩
abbrev main_call0_v27 : Ref sig .tc := ⟨.hbm, 66, rfl⟩
abbrev main_call0_v28 : Ref sig .tc := ⟨.hbm, 67, rfl⟩
abbrev main_call0_v29 : Ref sig .tc := ⟨.hbm, 68, rfl⟩
abbrev main_call0_v30 : Ref sig .tc := ⟨.hbm, 69, rfl⟩
abbrev main_call0_v31 : Ref sig .tc := ⟨.hbm, 70, rfl⟩
abbrev main_call0_v32 : Ref sig .tc := ⟨.hbm, 71, rfl⟩
abbrev main_call0_cst_7 : Ref sig .tc := ⟨.hbm, 72, rfl⟩
abbrev main_call0_v33 : Ref sig .tc := ⟨.hbm, 73, rfl⟩
abbrev main_call0_v34 : Ref sig .tc := ⟨.hbm, 74, rfl⟩
abbrev main_v0 : Ref sig .tc := ⟨.hbm, 75, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28

abbrev nD : Nat := 1
abbrev τ : Topo := Topo.v7x

variable {F : FTy → Type} [FloatOps F]

abbrev grid0 : Pipeline.Grid := ⟨1, ![512], ![false]⟩

def k0_off1 (v663 : BitVec 32) (v665 : BitVec 32) : Fin 5 → Nat :=
  let c0_201 : Index := 0#32
  let v666 : Index := Scalar.indexCast v663
  let v667 : Index := Scalar.indexCast v665
  let c0_202 : Index := 0#32
  let c0_203 : Index := 0#32
  ![0, v666.toNat, v667.toNat, 0, 0]

def k0_chk1 (v663 : BitVec 32) (v665 : BitVec 32) : Prop :=
  (∀ a, (k0_off1 v663 v665) a + S2x9x2x8x128.size a ≤ S2x128x16x8x128.size a)
theorem k0_off1_inb : ∀ (v663 : BitVec 32) (v665 : BitVec 32) (k0_hw1 : k0_chk1 v663 v665), ∀ a, (k0_off1 v663 v665) a + S2x9x2x8x128.size a ≤ S2x128x16x8x128.size a := fun v663 v665 k0_hw1 => k0_hw1

def k0_off2 (v678 : BitVec 32) (v680 : BitVec 32) : Fin 5 → Nat :=
  let c0_216 : Index := 0#32
  let v681 : Index := Scalar.indexCast v678
  let v682 : Index := Scalar.indexCast v680
  let c0_217 : Index := 0#32
  let c0_218 : Index := 0#32
  ![0, v681.toNat, v682.toNat, 0, 0]

def k0_chk2 (v678 : BitVec 32) (v680 : BitVec 32) : Prop :=
  (∀ a, (k0_off2 v678 v680) a + S2x9x2x8x128.size a ≤ S2x128x16x8x128.size a)
theorem k0_off2_inb : ∀ (v678 : BitVec 32) (v680 : BitVec 32) (k0_hw2 : k0_chk2 v678 v680), ∀ a, (k0_off2 v678 v680) a + S2x9x2x8x128.size a ≤ S2x128x16x8x128.size a := fun v678 v680 k0_hw2 => k0_hw2

def k0_off3 (v693 : BitVec 32) (v695 : BitVec 32) : Fin 5 → Nat :=
  let c0_231 : Index := 0#32
  let v696 : Index := Scalar.indexCast v693
  let v697 : Index := Scalar.indexCast v695
  let c0_232 : Index := 0#32
  let c0_233 : Index := 0#32
  ![0, v696.toNat, v697.toNat, 0, 0]

def k0_chk3 (v693 : BitVec 32) (v695 : BitVec 32) : Prop :=
  (∀ a, (k0_off3 v693 v695) a + S2x9x2x8x128.size a ≤ S2x128x16x8x128.size a)
theorem k0_off3_inb : ∀ (v693 : BitVec 32) (v695 : BitVec 32) (k0_hw3 : k0_chk3 v693 v695), ∀ a, (k0_off3 v693 v695) a + S2x9x2x8x128.size a ≤ S2x128x16x8x128.size a := fun v693 v695 k0_hw3 => k0_hw3

def k0_off4 (v708 : BitVec 32) (v710 : BitVec 32) : Fin 5 → Nat :=
  let c0_246 : Index := 0#32
  let v711 : Index := Scalar.indexCast v708
  let v712 : Index := Scalar.indexCast v710
  let c0_247 : Index := 0#32
  let c0_248 : Index := 0#32
  ![0, v711.toNat, v712.toNat, 0, 0]

def k0_chk4 (v708 : BitVec 32) (v710 : BitVec 32) : Prop :=
  (∀ a, (k0_off4 v708 v710) a + S2x9x2x8x128.size a ≤ S2x128x16x8x128.size a)
theorem k0_off4_inb : ∀ (v708 : BitVec 32) (v710 : BitVec 32) (k0_hw4 : k0_chk4 v708 v710), ∀ a, (k0_off4 v708 v710) a + S2x9x2x8x128.size a ≤ S2x128x16x8x128.size a := fun v708 v710 k0_hw4 => k0_hw4

def k0_off5 (v723 : BitVec 32) (v725 : BitVec 32) : Fin 5 → Nat :=
  let c0_261 : Index := 0#32
  let v726 : Index := Scalar.indexCast v723
  let v727 : Index := Scalar.indexCast v725
  let c0_262 : Index := 0#32
  let c0_263 : Index := 0#32
  ![0, v726.toNat, v727.toNat, 0, 0]

def k0_chk5 (v723 : BitVec 32) (v725 : BitVec 32) : Prop :=
  (∀ a, (k0_off5 v723 v725) a + S2x9x2x8x128.size a ≤ S2x128x16x8x128.size a)
theorem k0_off5_inb : ∀ (v723 : BitVec 32) (v725 : BitVec 32) (k0_hw5 : k0_chk5 v723 v725), ∀ a, (k0_off5 v723 v725) a + S2x9x2x8x128.size a ≤ S2x128x16x8x128.size a := fun v723 v725 k0_hw5 => k0_hw5

def k0_off6 (v738 : BitVec 32) (v740 : BitVec 32) : Fin 5 → Nat :=
  let c0_276 : Index := 0#32
  let v741 : Index := Scalar.indexCast v738
  let v742 : Index := Scalar.indexCast v740
  let c0_277 : Index := 0#32
  let c0_278 : Index := 0#32
  ![0, v741.toNat, v742.toNat, 0, 0]

def k0_chk6 (v738 : BitVec 32) (v740 : BitVec 32) : Prop :=
  (∀ a, (k0_off6 v738 v740) a + S2x9x2x8x128.size a ≤ S2x128x16x8x128.size a)
theorem k0_off6_inb : ∀ (v738 : BitVec 32) (v740 : BitVec 32) (k0_hw6 : k0_chk6 v738 v740), ∀ a, (k0_off6 v738 v740) a + S2x9x2x8x128.size a ≤ S2x128x16x8x128.size a := fun v738 v740 k0_hw6 => k0_hw6

def k0_off7 (v753 : BitVec 32) (v755 : BitVec 32) : Fin 5 → Nat :=
  let c0_291 : Index := 0#32
  let v756 : Index := Scalar.indexCast v753
  let v757 : Index := Scalar.indexCast v755
  let c0_292 : Index := 0#32
  let c0_293 : Index := 0#32
  ![0, v756.toNat, v757.toNat, 0, 0]

def k0_chk7 (v753 : BitVec 32) (v755 : BitVec 32) : Prop :=
  (∀ a, (k0_off7 v753 v755) a + S2x9x2x8x128.size a ≤ S2x128x16x8x128.size a)
theorem k0_off7_inb : ∀ (v753 : BitVec 32) (v755 : BitVec 32) (k0_hw7 : k0_chk7 v753 v755), ∀ a, (k0_off7 v753 v755) a + S2x9x2x8x128.size a ≤ S2x128x16x8x128.size a := fun v753 v755 k0_hw7 => k0_hw7

def k0_off8 (v768 : BitVec 32) (v770 : BitVec 32) : Fin 5 → Nat :=
  let c0_306 : Index := 0#32
  let v771 : Index := Scalar.indexCast v768
  let v772 : Index := Scalar.indexCast v770
  let c0_307 : Index := 0#32
  let c0_308 : Index := 0#32
  ![0, v771.toNat, v772.toNat, 0, 0]

def k0_chk8 (v768 : BitVec 32) (v770 : BitVec 32) : Prop :=
  (∀ a, (k0_off8 v768 v770) a + S2x9x2x8x128.size a ≤ S2x128x16x8x128.size a)
theorem k0_off8_inb : ∀ (v768 : BitVec 32) (v770 : BitVec 32) (k0_hw8 : k0_chk8 v768 v770), ∀ a, (k0_off8 v768 v770) a + S2x9x2x8x128.size a ≤ S2x128x16x8x128.size a := fun v768 v770 k0_hw8 => k0_hw8

def k0_off9 (v783 : BitVec 32) (v785 : BitVec 32) : Fin 5 → Nat :=
  let c0_321 : Index := 0#32
  let v786 : Index := Scalar.indexCast v783
  let v787 : Index := Scalar.indexCast v785
  let c0_322 : Index := 0#32
  let c0_323 : Index := 0#32
  ![0, v786.toNat, v787.toNat, 0, 0]

def k0_chk9 (v783 : BitVec 32) (v785 : BitVec 32) : Prop :=
  (∀ a, (k0_off9 v783 v785) a + S2x9x2x8x128.size a ≤ S2x128x16x8x128.size a)
theorem k0_off9_inb : ∀ (v783 : BitVec 32) (v785 : BitVec 32) (k0_hw9 : k0_chk9 v783 v785), ∀ a, (k0_off9 v783 v785) a + S2x9x2x8x128.size a ≤ S2x128x16x8x128.size a := fun v783 v785 k0_hw9 => k0_hw9

def k0_off10 (v798 : BitVec 32) (v800 : BitVec 32) : Fin 5 → Nat :=
  let c0_336 : Index := 0#32
  let v801 : Index := Scalar.indexCast v798
  let v802 : Index := Scalar.indexCast v800
  let c0_337 : Index := 0#32
  let c0_338 : Index := 0#32
  ![0, v801.toNat, v802.toNat, 0, 0]

def k0_chk10 (v798 : BitVec 32) (v800 : BitVec 32) : Prop :=
  (∀ a, (k0_off10 v798 v800) a + S2x9x2x8x128.size a ≤ S2x128x16x8x128.size a)
theorem k0_off10_inb : ∀ (v798 : BitVec 32) (v800 : BitVec 32) (k0_hw10 : k0_chk10 v798 v800), ∀ a, (k0_off10 v798 v800) a + S2x9x2x8x128.size a ≤ S2x128x16x8x128.size a := fun v798 v800 k0_hw10 => k0_hw10

def k0_off11 (v813 : BitVec 32) (v815 : BitVec 32) : Fin 5 → Nat :=
  let c0_351 : Index := 0#32
  let v816 : Index := Scalar.indexCast v813
  let v817 : Index := Scalar.indexCast v815
  let c0_352 : Index := 0#32
  let c0_353 : Index := 0#32
  ![0, v816.toNat, v817.toNat, 0, 0]

def k0_chk11 (v813 : BitVec 32) (v815 : BitVec 32) : Prop :=
  (∀ a, (k0_off11 v813 v815) a + S2x9x2x8x128.size a ≤ S2x128x16x8x128.size a)
theorem k0_off11_inb : ∀ (v813 : BitVec 32) (v815 : BitVec 32) (k0_hw11 : k0_chk11 v813 v815), ∀ a, (k0_off11 v813 v815) a + S2x9x2x8x128.size a ≤ S2x128x16x8x128.size a := fun v813 v815 k0_hw11 => k0_hw11

def k0_off12 (v828 : BitVec 32) (v830 : BitVec 32) : Fin 5 → Nat :=
  let c0_366 : Index := 0#32
  let v831 : Index := Scalar.indexCast v828
  let v832 : Index := Scalar.indexCast v830
  let c0_367 : Index := 0#32
  let c0_368 : Index := 0#32
  ![0, v831.toNat, v832.toNat, 0, 0]

def k0_chk12 (v828 : BitVec 32) (v830 : BitVec 32) : Prop :=
  (∀ a, (k0_off12 v828 v830) a + S2x9x2x8x128.size a ≤ S2x128x16x8x128.size a)
theorem k0_off12_inb : ∀ (v828 : BitVec 32) (v830 : BitVec 32) (k0_hw12 : k0_chk12 v828 v830), ∀ a, (k0_off12 v828 v830) a + S2x9x2x8x128.size a ≤ S2x128x16x8x128.size a := fun v828 v830 k0_hw12 => k0_hw12

def k0_off13 (v843 : BitVec 32) (v845 : BitVec 32) : Fin 5 → Nat :=
  let c0_381 : Index := 0#32
  let v846 : Index := Scalar.indexCast v843
  let v847 : Index := Scalar.indexCast v845
  let c0_382 : Index := 0#32
  let c0_383 : Index := 0#32
  ![0, v846.toNat, v847.toNat, 0, 0]

def k0_chk13 (v843 : BitVec 32) (v845 : BitVec 32) : Prop :=
  (∀ a, (k0_off13 v843 v845) a + S2x9x2x8x128.size a ≤ S2x128x16x8x128.size a)
theorem k0_off13_inb : ∀ (v843 : BitVec 32) (v845 : BitVec 32) (k0_hw13 : k0_chk13 v843 v845), ∀ a, (k0_off13 v843 v845) a + S2x9x2x8x128.size a ≤ S2x128x16x8x128.size a := fun v843 v845 k0_hw13 => k0_hw13

def k0_off14 (v858 : BitVec 32) (v860 : BitVec 32) : Fin 5 → Nat :=
  let c0_396 : Index := 0#32
  let v861 : Index := Scalar.indexCast v858
  let v862 : Index := Scalar.indexCast v860
  let c0_397 : Index := 0#32
  let c0_398 : Index := 0#32
  ![0, v861.toNat, v862.toNat, 0, 0]

def k0_chk14 (v858 : BitVec 32) (v860 : BitVec 32) : Prop :=
  (∀ a, (k0_off14 v858 v860) a + S2x9x2x8x128.size a ≤ S2x128x16x8x128.size a)
theorem k0_off14_inb : ∀ (v858 : BitVec 32) (v860 : BitVec 32) (k0_hw14 : k0_chk14 v858 v860), ∀ a, (k0_off14 v858 v860) a + S2x9x2x8x128.size a ≤ S2x128x16x8x128.size a := fun v858 v860 k0_hw14 => k0_hw14

def k0_off15 (v873 : BitVec 32) (v875 : BitVec 32) : Fin 5 → Nat :=
  let c0_411 : Index := 0#32
  let v876 : Index := Scalar.indexCast v873
  let v877 : Index := Scalar.indexCast v875
  let c0_412 : Index := 0#32
  let c0_413 : Index := 0#32
  ![0, v876.toNat, v877.toNat, 0, 0]

def k0_chk15 (v873 : BitVec 32) (v875 : BitVec 32) : Prop :=
  (∀ a, (k0_off15 v873 v875) a + S2x9x2x8x128.size a ≤ S2x128x16x8x128.size a)
theorem k0_off15_inb : ∀ (v873 : BitVec 32) (v875 : BitVec 32) (k0_hw15 : k0_chk15 v873 v875), ∀ a, (k0_off15 v873 v875) a + S2x9x2x8x128.size a ≤ S2x128x16x8x128.size a := fun v873 v875 k0_hw15 => k0_hw15

def k0_off16 (v888 : BitVec 32) (v890 : BitVec 32) : Fin 5 → Nat :=
  let c0_426 : Index := 0#32
  let v891 : Index := Scalar.indexCast v888
  let v892 : Index := Scalar.indexCast v890
  let c0_427 : Index := 0#32
  let c0_428 : Index := 0#32
  ![0, v891.toNat, v892.toNat, 0, 0]

def k0_chk16 (v888 : BitVec 32) (v890 : BitVec 32) : Prop :=
  (∀ a, (k0_off16 v888 v890) a + S2x9x2x8x128.size a ≤ S2x128x16x8x128.size a)
theorem k0_off16_inb : ∀ (v888 : BitVec 32) (v890 : BitVec 32) (k0_hw16 : k0_chk16 v888 v890), ∀ a, (k0_off16 v888 v890) a + S2x9x2x8x128.size a ≤ S2x128x16x8x128.size a := fun v888 v890 k0_hw16 => k0_hw16

def k0_off17 (v903 : BitVec 32) (v905 : BitVec 32) : Fin 5 → Nat :=
  let c0_441 : Index := 0#32
  let v906 : Index := Scalar.indexCast v903
  let v907 : Index := Scalar.indexCast v905
  let c0_442 : Index := 0#32
  let c0_443 : Index := 0#32
  ![0, v906.toNat, v907.toNat, 0, 0]

def k0_chk17 (v903 : BitVec 32) (v905 : BitVec 32) : Prop :=
  (∀ a, (k0_off17 v903 v905) a + S2x9x2x8x128.size a ≤ S2x128x16x8x128.size a)
theorem k0_off17_inb : ∀ (v903 : BitVec 32) (v905 : BitVec 32) (k0_hw17 : k0_chk17 v903 v905), ∀ a, (k0_off17 v903 v905) a + S2x9x2x8x128.size a ≤ S2x128x16x8x128.size a := fun v903 v905 k0_hw17 => k0_hw17

def k0_off18 (v918 : BitVec 32) (v920 : BitVec 32) : Fin 5 → Nat :=
  let c0_456 : Index := 0#32
  let v921 : Index := Scalar.indexCast v918
  let v922 : Index := Scalar.indexCast v920
  let c0_457 : Index := 0#32
  let c0_458 : Index := 0#32
  ![0, v921.toNat, v922.toNat, 0, 0]

def k0_chk18 (v918 : BitVec 32) (v920 : BitVec 32) : Prop :=
  (∀ a, (k0_off18 v918 v920) a + S2x9x2x8x128.size a ≤ S2x128x16x8x128.size a)
theorem k0_off18_inb : ∀ (v918 : BitVec 32) (v920 : BitVec 32) (k0_hw18 : k0_chk18 v918 v920), ∀ a, (k0_off18 v918 v920) a + S2x9x2x8x128.size a ≤ S2x128x16x8x128.size a := fun v918 v920 k0_hw18 => k0_hw18

def k0_off19 (v933 : BitVec 32) (v935 : BitVec 32) : Fin 5 → Nat :=
  let c0_471 : Index := 0#32
  let v936 : Index := Scalar.indexCast v933
  let v937 : Index := Scalar.indexCast v935
  let c0_472 : Index := 0#32
  let c0_473 : Index := 0#32
  ![0, v936.toNat, v937.toNat, 0, 0]

def k0_chk19 (v933 : BitVec 32) (v935 : BitVec 32) : Prop :=
  (∀ a, (k0_off19 v933 v935) a + S2x9x2x8x128.size a ≤ S2x128x16x8x128.size a)
theorem k0_off19_inb : ∀ (v933 : BitVec 32) (v935 : BitVec 32) (k0_hw19 : k0_chk19 v933 v935), ∀ a, (k0_off19 v933 v935) a + S2x9x2x8x128.size a ≤ S2x128x16x8x128.size a := fun v933 v935 k0_hw19 => k0_hw19

def k0_off20 (v948 : BitVec 32) (v950 : BitVec 32) : Fin 5 → Nat :=
  let c0_486 : Index := 0#32
  let v951 : Index := Scalar.indexCast v948
  let v952 : Index := Scalar.indexCast v950
  let c0_487 : Index := 0#32
  let c0_488 : Index := 0#32
  ![0, v951.toNat, v952.toNat, 0, 0]

def k0_chk20 (v948 : BitVec 32) (v950 : BitVec 32) : Prop :=
  (∀ a, (k0_off20 v948 v950) a + S2x9x2x8x128.size a ≤ S2x128x16x8x128.size a)
theorem k0_off20_inb : ∀ (v948 : BitVec 32) (v950 : BitVec 32) (k0_hw20 : k0_chk20 v948 v950), ∀ a, (k0_off20 v948 v950) a + S2x9x2x8x128.size a ≤ S2x128x16x8x128.size a := fun v948 v950 k0_hw20 => k0_hw20

def k0_off21 (v963 : BitVec 32) (v965 : BitVec 32) : Fin 5 → Nat :=
  let c0_501 : Index := 0#32
  let v966 : Index := Scalar.indexCast v963
  let v967 : Index := Scalar.indexCast v965
  let c0_502 : Index := 0#32
  let c0_503 : Index := 0#32
  ![0, v966.toNat, v967.toNat, 0, 0]

def k0_chk21 (v963 : BitVec 32) (v965 : BitVec 32) : Prop :=
  (∀ a, (k0_off21 v963 v965) a + S2x9x2x8x128.size a ≤ S2x128x16x8x128.size a)
theorem k0_off21_inb : ∀ (v963 : BitVec 32) (v965 : BitVec 32) (k0_hw21 : k0_chk21 v963 v965), ∀ a, (k0_off21 v963 v965) a + S2x9x2x8x128.size a ≤ S2x128x16x8x128.size a := fun v963 v965 k0_hw21 => k0_hw21

def k0_off22 (v978 : BitVec 32) (v980 : BitVec 32) : Fin 5 → Nat :=
  let c0_516 : Index := 0#32
  let v981 : Index := Scalar.indexCast v978
  let v982 : Index := Scalar.indexCast v980
  let c0_517 : Index := 0#32
  let c0_518 : Index := 0#32
  ![0, v981.toNat, v982.toNat, 0, 0]

def k0_chk22 (v978 : BitVec 32) (v980 : BitVec 32) : Prop :=
  (∀ a, (k0_off22 v978 v980) a + S2x9x2x8x128.size a ≤ S2x128x16x8x128.size a)
theorem k0_off22_inb : ∀ (v978 : BitVec 32) (v980 : BitVec 32) (k0_hw22 : k0_chk22 v978 v980), ∀ a, (k0_off22 v978 v980) a + S2x9x2x8x128.size a ≤ S2x128x16x8x128.size a := fun v978 v980 k0_hw22 => k0_hw22

def k0_off23 (v993 : BitVec 32) (v995 : BitVec 32) : Fin 5 → Nat :=
  let c0_531 : Index := 0#32
  let v996 : Index := Scalar.indexCast v993
  let v997 : Index := Scalar.indexCast v995
  let c0_532 : Index := 0#32
  let c0_533 : Index := 0#32
  ![0, v996.toNat, v997.toNat, 0, 0]

def k0_chk23 (v993 : BitVec 32) (v995 : BitVec 32) : Prop :=
  (∀ a, (k0_off23 v993 v995) a + S2x9x2x8x128.size a ≤ S2x128x16x8x128.size a)
theorem k0_off23_inb : ∀ (v993 : BitVec 32) (v995 : BitVec 32) (k0_hw23 : k0_chk23 v993 v995), ∀ a, (k0_off23 v993 v995) a + S2x9x2x8x128.size a ≤ S2x128x16x8x128.size a := fun v993 v995 k0_hw23 => k0_hw23

def k0_off24 (v1008 : BitVec 32) (v1010 : BitVec 32) : Fin 5 → Nat :=
  let c0_546 : Index := 0#32
  let v1011 : Index := Scalar.indexCast v1008
  let v1012 : Index := Scalar.indexCast v1010
  let c0_547 : Index := 0#32
  let c0_548 : Index := 0#32
  ![0, v1011.toNat, v1012.toNat, 0, 0]

def k0_chk24 (v1008 : BitVec 32) (v1010 : BitVec 32) : Prop :=
  (∀ a, (k0_off24 v1008 v1010) a + S2x9x2x8x128.size a ≤ S2x128x16x8x128.size a)
theorem k0_off24_inb : ∀ (v1008 : BitVec 32) (v1010 : BitVec 32) (k0_hw24 : k0_chk24 v1008 v1010), ∀ a, (k0_off24 v1008 v1010) a + S2x9x2x8x128.size a ≤ S2x128x16x8x128.size a := fun v1008 v1010 k0_hw24 => k0_hw24

def k0_off25 (v1023 : BitVec 32) (v1025 : BitVec 32) : Fin 5 → Nat :=
  let c0_561 : Index := 0#32
  let v1026 : Index := Scalar.indexCast v1023
  let v1027 : Index := Scalar.indexCast v1025
  let c0_562 : Index := 0#32
  let c0_563 : Index := 0#32
  ![0, v1026.toNat, v1027.toNat, 0, 0]

def k0_chk25 (v1023 : BitVec 32) (v1025 : BitVec 32) : Prop :=
  (∀ a, (k0_off25 v1023 v1025) a + S2x9x2x8x128.size a ≤ S2x128x16x8x128.size a)
theorem k0_off25_inb : ∀ (v1023 : BitVec 32) (v1025 : BitVec 32) (k0_hw25 : k0_chk25 v1023 v1025), ∀ a, (k0_off25 v1023 v1025) a + S2x9x2x8x128.size a ≤ S2x128x16x8x128.size a := fun v1023 v1025 k0_hw25 => k0_hw25

def k0_off26 (v1038 : BitVec 32) (v1040 : BitVec 32) : Fin 5 → Nat :=
  let c0_576 : Index := 0#32
  let v1041 : Index := Scalar.indexCast v1038
  let v1042 : Index := Scalar.indexCast v1040
  let c0_577 : Index := 0#32
  let c0_578 : Index := 0#32
  ![0, v1041.toNat, v1042.toNat, 0, 0]

def k0_chk26 (v1038 : BitVec 32) (v1040 : BitVec 32) : Prop :=
  (∀ a, (k0_off26 v1038 v1040) a + S2x9x2x8x128.size a ≤ S2x128x16x8x128.size a)
theorem k0_off26_inb : ∀ (v1038 : BitVec 32) (v1040 : BitVec 32) (k0_hw26 : k0_chk26 v1038 v1040), ∀ a, (k0_off26 v1038 v1040) a + S2x9x2x8x128.size a ≤ S2x128x16x8x128.size a := fun v1038 v1040 k0_hw26 => k0_hw26

def k0_off27 (v1053 : BitVec 32) (v1055 : BitVec 32) : Fin 5 → Nat :=
  let c0_591 : Index := 0#32
  let v1056 : Index := Scalar.indexCast v1053
  let v1057 : Index := Scalar.indexCast v1055
  let c0_592 : Index := 0#32
  let c0_593 : Index := 0#32
  ![0, v1056.toNat, v1057.toNat, 0, 0]

def k0_chk27 (v1053 : BitVec 32) (v1055 : BitVec 32) : Prop :=
  (∀ a, (k0_off27 v1053 v1055) a + S2x9x2x8x128.size a ≤ S2x128x16x8x128.size a)
theorem k0_off27_inb : ∀ (v1053 : BitVec 32) (v1055 : BitVec 32) (k0_hw27 : k0_chk27 v1053 v1055), ∀ a, (k0_off27 v1053 v1055) a + S2x9x2x8x128.size a ≤ S2x128x16x8x128.size a := fun v1053 v1055 k0_hw27 => k0_hw27

def k0_off28 (v1068 : BitVec 32) (v1070 : BitVec 32) : Fin 5 → Nat :=
  let c0_606 : Index := 0#32
  let v1071 : Index := Scalar.indexCast v1068
  let v1072 : Index := Scalar.indexCast v1070
  let c0_607 : Index := 0#32
  let c0_608 : Index := 0#32
  ![0, v1071.toNat, v1072.toNat, 0, 0]

def k0_chk28 (v1068 : BitVec 32) (v1070 : BitVec 32) : Prop :=
  (∀ a, (k0_off28 v1068 v1070) a + S2x9x2x8x128.size a ≤ S2x128x16x8x128.size a)
theorem k0_off28_inb : ∀ (v1068 : BitVec 32) (v1070 : BitVec 32) (k0_hw28 : k0_chk28 v1068 v1070), ∀ a, (k0_off28 v1068 v1070) a + S2x9x2x8x128.size a ≤ S2x128x16x8x128.size a := fun v1068 v1070 k0_hw28 => k0_hw28

def k0_off29 (v1083 : BitVec 32) (v1085 : BitVec 32) : Fin 5 → Nat :=
  let c0_621 : Index := 0#32
  let v1086 : Index := Scalar.indexCast v1083
  let v1087 : Index := Scalar.indexCast v1085
  let c0_622 : Index := 0#32
  let c0_623 : Index := 0#32
  ![0, v1086.toNat, v1087.toNat, 0, 0]

def k0_chk29 (v1083 : BitVec 32) (v1085 : BitVec 32) : Prop :=
  (∀ a, (k0_off29 v1083 v1085) a + S2x9x2x8x128.size a ≤ S2x128x16x8x128.size a)
theorem k0_off29_inb : ∀ (v1083 : BitVec 32) (v1085 : BitVec 32) (k0_hw29 : k0_chk29 v1083 v1085), ∀ a, (k0_off29 v1083 v1085) a + S2x9x2x8x128.size a ≤ S2x128x16x8x128.size a := fun v1083 v1085 k0_hw29 => k0_hw29

def k0_off30 (v1098 : BitVec 32) (v1100 : BitVec 32) : Fin 5 → Nat :=
  let c0_636 : Index := 0#32
  let v1101 : Index := Scalar.indexCast v1098
  let v1102 : Index := Scalar.indexCast v1100
  let c0_637 : Index := 0#32
  let c0_638 : Index := 0#32
  ![0, v1101.toNat, v1102.toNat, 0, 0]

def k0_chk30 (v1098 : BitVec 32) (v1100 : BitVec 32) : Prop :=
  (∀ a, (k0_off30 v1098 v1100) a + S2x9x2x8x128.size a ≤ S2x128x16x8x128.size a)
theorem k0_off30_inb : ∀ (v1098 : BitVec 32) (v1100 : BitVec 32) (k0_hw30 : k0_chk30 v1098 v1100), ∀ a, (k0_off30 v1098 v1100) a + S2x9x2x8x128.size a ≤ S2x128x16x8x128.size a := fun v1098 v1100 k0_hw30 => k0_hw30

def k0_off31 (v1113 : BitVec 32) (v1115 : BitVec 32) : Fin 5 → Nat :=
  let c0_651 : Index := 0#32
  let v1116 : Index := Scalar.indexCast v1113
  let v1117 : Index := Scalar.indexCast v1115
  let c0_652 : Index := 0#32
  let c0_653 : Index := 0#32
  ![0, v1116.toNat, v1117.toNat, 0, 0]

def k0_chk31 (v1113 : BitVec 32) (v1115 : BitVec 32) : Prop :=
  (∀ a, (k0_off31 v1113 v1115) a + S2x9x2x8x128.size a ≤ S2x128x16x8x128.size a)
theorem k0_off31_inb : ∀ (v1113 : BitVec 32) (v1115 : BitVec 32) (k0_hw31 : k0_chk31 v1113 v1115), ∀ a, (k0_off31 v1113 v1115) a + S2x9x2x8x128.size a ≤ S2x128x16x8x128.size a := fun v1113 v1115 k0_hw31 => k0_hw31

def k0_off32 (v1128 : BitVec 32) (v1130 : BitVec 32) : Fin 5 → Nat :=
  let c0_666 : Index := 0#32
  let v1131 : Index := Scalar.indexCast v1128
  let v1132 : Index := Scalar.indexCast v1130
  let c0_667 : Index := 0#32
  let c0_668 : Index := 0#32
  ![0, v1131.toNat, v1132.toNat, 0, 0]

def k0_chk32 (v1128 : BitVec 32) (v1130 : BitVec 32) : Prop :=
  (∀ a, (k0_off32 v1128 v1130) a + S2x9x2x8x128.size a ≤ S2x128x16x8x128.size a)
theorem k0_off32_inb : ∀ (v1128 : BitVec 32) (v1130 : BitVec 32) (k0_hw32 : k0_chk32 v1128 v1130), ∀ a, (k0_off32 v1128 v1130) a + S2x9x2x8x128.size a ≤ S2x128x16x8x128.size a := fun v1128 v1130 k0_hw32 => k0_hw32

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

abbrev stage0_0 : Fin 2 → Memref sig .tc .smem S1x1x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x128x16x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "amplitude_floor_sq" => some ((77371252064649 / 77371252455336267181195264 : ℝ) : EReal)
  | "exponent_floor" => some ⊥
  | "neg_half_log2e" => some (((-1 / 2) * (Real.log 2)⁻¹ : ℝ) : EReal)
  | _ => none
-- ==== ReferenceIdeal.lean ====
abbrev S16384x3 : Shape := ⟨2, ![16384, 3]⟩
abbrev S16384x4 : Shape := ⟨2, ![16384, 4]⟩
abbrev S16384x2 : Shape := ⟨2, ![16384, 2]⟩
abbrev S3 : Shape := ⟨1, ![3]⟩
abbrev S_ : Shape := ⟨0, ![]⟩
abbrev S16384 : Shape := ⟨1, ![16384]⟩
abbrev S16384x1 : Shape := ⟨2, ![16384, 1]⟩
abbrev S16384x1x3 : Shape := ⟨3, ![16384, 1, 3]⟩
abbrev S16384x3x3 : Shape := ⟨3, ![16384, 3, 3]⟩
abbrev S1x3 : Shape := ⟨2, ![1, 3]⟩
abbrev S9 : Shape := ⟨1, ![9]⟩
abbrev S1x9 : Shape := ⟨2, ![1, 9]⟩
abbrev S16384x9 : Shape := ⟨2, ![16384, 9]⟩
abbrev S16384x9x1x1 : Shape := ⟨4, ![16384, 9, 1, 1]⟩
abbrev S16384x1x9x1 : Shape := ⟨4, ![16384, 1, 9, 1]⟩
abbrev S16384x1x1x9 : Shape := ⟨4, ![16384, 1, 1, 9]⟩
abbrev S16384x1x1 : Shape := ⟨3, ![16384, 1, 1]⟩
abbrev S16384x1x1x1 : Shape := ⟨4, ![16384, 1, 1, 1]⟩
abbrev S16384x9x9x1 : Shape := ⟨4, ![16384, 9, 9, 1]⟩
abbrev S16384x9x9x9 : Shape := ⟨4, ![16384, 9, 9, 9]⟩
abbrev S16384x9x1x9 : Shape := ⟨4, ![16384, 9, 1, 9]⟩
abbrev S16384x1x9x9 : Shape := ⟨4, ![16384, 1, 9, 9]⟩
abbrev S11943936 : Shape := ⟨1, ![11943936]⟩
abbrev S2097152 : Shape := ⟨1, ![2097152]⟩
abbrev S11943936x1 : Shape := ⟨2, ![11943936, 1]⟩
abbrev S128x128x128 : Shape := ⟨3, ![128, 128, 128]⟩
abbrev S1x128x128x128 : Shape := ⟨4, ![1, 128, 128, 128]⟩
abbrev S2x128x128x128 : Shape := ⟨4, ![2, 128, 128, 128]⟩

abbrev nBuf : Space → Nat
  | .hbm => 367
  | .vmem => 0
  | .smem => 0
  | _ => 0

abbrev hbmTy0_0 (i : Nat) : BufTy := match i % 128 with
  | 0 => ⟨S16384x3, .f32⟩
  | 1 => ⟨S16384x3, .f32⟩
  | 2 => ⟨S16384x4, .f32⟩
  | 3 => ⟨S16384x2, .f32⟩
  | 4 => ⟨S3, .f32⟩
  | 5 => ⟨S_, .f32⟩
  | 6 => ⟨S_, .f32⟩
  | 7 => ⟨S16384x3, .f32⟩
  | 8 => ⟨S16384x3, .f32⟩
  | 9 => ⟨S16384x3, .f32⟩
  | 10 => ⟨S16384x3, .f32⟩
  | 11 => ⟨S16384x4, .f32⟩
  | 12 => ⟨S_, .f32⟩
  | 13 => ⟨S16384, .f32⟩
  | 14 => ⟨S16384x1, .f32⟩
  | 15 => ⟨S16384x1, .f32⟩
  | 16 => ⟨S_, .f32⟩
  | 17 => ⟨S_, .f32⟩
  | 18 => ⟨S16384x1, .f32⟩
  | 19 => ⟨S16384x1, .f32⟩
  | 20 => ⟨S16384x4, .f32⟩
  | 21 => ⟨S16384x4, .f32⟩
  | 22 => ⟨S16384x4, .f32⟩
  | 23 => ⟨S_, .f32⟩
  | 24 => ⟨S16384, .f32⟩
  | 25 => ⟨S16384x1, .f32⟩
  | 26 => ⟨S16384x1, .f32⟩
  | 27 => ⟨S_, .f32⟩
  | 28 => ⟨S_, .f32⟩
  | 29 => ⟨S16384x1, .f32⟩
  | 30 => ⟨S16384x1, .f32⟩
  | 31 => ⟨S16384x4, .f32⟩
  | 32 => ⟨S16384x4, .f32⟩
  | 33 => ⟨S16384x1, .f32⟩
  | 34 => ⟨S16384, .f32⟩
  | 35 => ⟨S16384x1, .f32⟩
  | 36 => ⟨S16384, .f32⟩
  | 37 => ⟨S16384x1, .f32⟩
  | 38 => ⟨S16384, .f32⟩
  | 39 => ⟨S16384x1, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S16384, .f32⟩
  | 55 => ⟨S_, .f32⟩
  | 56 => ⟨S16384, .f32⟩
  | 57 => ⟨S16384, .f32⟩
  | 58 => ⟨S16384, .f32⟩
  | 59 => ⟨S_, .f32⟩
  | 60 => ⟨S16384, .f32⟩
  | 61 => ⟨S16384, .f32⟩
  | 62 => ⟨S16384x1, .f32⟩
  | 63 => ⟨S16384x1, .f32⟩
  | 64 => ⟨S16384x1, .f32⟩
  | 65 => ⟨S16384x3, .f32⟩
  | 66 => ⟨S16384, .f32⟩
  | 67 => ⟨S_, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S_, .f32⟩
  | 75 => ⟨S16384, .f32⟩
  | 76 => ⟨S16384, .f32⟩
  | 77 => ⟨S16384x1, .f32⟩
  | 78 => ⟨S16384x1, .f32⟩
  | 79 => ⟨S16384x1, .f32⟩
  | 80 => ⟨S16384x3, .f32⟩
  | 81 => ⟨S16384, .f32⟩
  | 82 => ⟨S_, .f32⟩
  | 83 => ⟨S16384, .f32⟩
  | 84 => ⟨S16384, .f32⟩
  | 85 => ⟨S16384, .f32⟩
  | 86 => ⟨S_, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384x1, .f32⟩
  | 93 => ⟨S16384x1, .f32⟩
  | 94 => ⟨S16384x1, .f32⟩
  | 95 => ⟨S16384x3, .f32⟩
  | 96 => ⟨S16384x1x3, .f32⟩
  | 97 => ⟨S16384x1x3, .f32⟩
  | 98 => ⟨S16384x1x3, .f32⟩
  | 99 => ⟨S16384x3x3, .f32⟩
  | 100 => ⟨S_, .f32⟩
  | 101 => ⟨S_, .f32⟩
  | 102 => ⟨S16384x3, .f32⟩
  | 103 => ⟨S16384x3, .f32⟩
  | 104 => ⟨S16384x3, .f32⟩
  | 105 => ⟨S_, .f32⟩
  | 106 => ⟨S16384x3, .f32⟩
  | 107 => ⟨S16384x3, .f32⟩
  | 108 => ⟨S16384x1x3, .f32⟩
  | 109 => ⟨S16384x3x3, .f32⟩
  | 110 => ⟨S16384x3x3, .f32⟩
  | 111 => ⟨S16384x3x3, .f32⟩
  | 112 => ⟨S1x3, .f32⟩
  | 113 => ⟨S16384x3, .f32⟩
  | 114 => ⟨S16384x3, .f32⟩
  | 115 => ⟨S_, .f32⟩
  | 116 => ⟨S16384, .f32⟩
  | 117 => ⟨S_, .f32⟩
  | 118 => ⟨S16384, .f32⟩
  | 119 => ⟨S16384, .f32⟩
  | 120 => ⟨S16384x1, .f32⟩
  | 121 => ⟨S16384x3, .f32⟩
  | 122 => ⟨S16384x3, .f32⟩
  | 123 => ⟨S16384x3, .f32⟩
  | 124 => ⟨S_, .f32⟩
  | 125 => ⟨S16384x3, .f32⟩
  | 126 => ⟨S16384x3, .f32⟩
  | 127 => ⟨S16384x1, .f32⟩
  | _ => ⟨S16384x3, .f32⟩

abbrev hbmTy0_1 (i : Nat) : BufTy := match i % 128 with
  | 0 => ⟨S16384x3, .f32⟩
  | 1 => ⟨S16384x3, .f32⟩
  | 2 => ⟨S16384x3, .f32⟩
  | 3 => ⟨S1x3, .f32⟩
  | 4 => ⟨S16384x3, .f32⟩
  | 5 => ⟨S16384x3, .f32⟩
  | 6 => ⟨S16384x3, .f32⟩
  | 7 => ⟨S16384x3, .i32⟩
  | 8 => ⟨S_, .i32⟩
  | 9 => ⟨S16384x3, .i32⟩
  | 10 => ⟨S16384x3, .i32⟩
  | 11 => ⟨S9, .i32⟩
  | 12 => ⟨S16384x1, .i32⟩
  | 13 => ⟨S1x9, .i32⟩
  | 14 => ⟨S16384x9, .i32⟩
  | 15 => ⟨S16384x9, .i32⟩
  | 16 => ⟨S16384x9, .i32⟩
  | 17 => ⟨S16384x1, .i32⟩
  | 18 => ⟨S1x9, .i32⟩
  | 19 => ⟨S16384x9, .i32⟩
  | 20 => ⟨S16384x9, .i32⟩
  | 21 => ⟨S16384x9, .i32⟩
  | 22 => ⟨S16384x1, .i32⟩
  | 23 => ⟨S1x9, .i32⟩
  | 24 => ⟨S16384x9, .i32⟩
  | 25 => ⟨S16384x9, .i32⟩
  | 26 => ⟨S16384x9, .i32⟩
  | 27 => ⟨S16384x9, .f32⟩
  | 28 => ⟨S16384x1, .f32⟩
  | 29 => ⟨S16384x9, .f32⟩
  | 30 => ⟨S16384x9, .f32⟩
  | 31 => ⟨S16384x9, .f32⟩
  | 32 => ⟨S16384x1, .f32⟩
  | 33 => ⟨S16384x9, .f32⟩
  | 34 => ⟨S16384x9, .f32⟩
  | 35 => ⟨S16384x9, .f32⟩
  | 36 => ⟨S16384x1, .f32⟩
  | 37 => ⟨S16384x9, .f32⟩
  | 38 => ⟨S16384x9, .f32⟩
  | 39 => ⟨S16384x9x1x1, .f32⟩
  | 40 => ⟨S16384x1x9x1, .f32⟩
  | 41 => ⟨S16384x1x1x9, .f32⟩
  | 42 => ⟨S16384x1x1, .f32⟩
  | 43 => ⟨S16384, .f32⟩
  | 44 => ⟨S16384x1x1x1, .f32⟩
  | 45 => ⟨S16384x9x1x1, .f32⟩
  | 46 => ⟨S16384x9x1x1, .f32⟩
  | 47 => ⟨S16384x9x1x1, .f32⟩
  | 48 => ⟨S16384x1x1, .f32⟩
  | 49 => ⟨S16384, .f32⟩
  | 50 => ⟨S16384x1x1x1, .f32⟩
  | 51 => ⟨S16384x1x9x1, .f32⟩
  | 52 => ⟨S16384x1x9x1, .f32⟩
  | 53 => ⟨S16384x1x9x1, .f32⟩
  | 54 => ⟨S16384x9x9x1, .f32⟩
  | 55 => ⟨S16384x9x9x1, .f32⟩
  | 56 => ⟨S16384x9x9x1, .f32⟩
  | 57 => ⟨S16384x1x1, .f32⟩
  | 58 => ⟨S16384, .f32⟩
  | 59 => ⟨S16384x1x1x1, .f32⟩
  | 60 => ⟨S16384x1x1x9, .f32⟩
  | 61 => ⟨S16384x1x1x9, .f32⟩
  | 62 => ⟨S16384x1x1x9, .f32⟩
  | 63 => ⟨S16384x9x9x9, .f32⟩
  | 64 => ⟨S16384x9x9x9, .f32⟩
  | 65 => ⟨S16384x9x9x9, .f32⟩
  | 66 => ⟨S16384x1x1, .f32⟩
  | 67 => ⟨S16384, .f32⟩
  | 68 => ⟨S16384x1x1x1, .f32⟩
  | 69 => ⟨S16384x9x1x1, .f32⟩
  | 70 => ⟨S16384x9x1x1, .f32⟩
  | 71 => ⟨S16384x9x9x1, .f32⟩
  | 72 => ⟨S16384x9x9x1, .f32⟩
  | 73 => ⟨S16384x9x9x1, .f32⟩
  | 74 => ⟨S16384x1x1, .f32⟩
  | 75 => ⟨S16384, .f32⟩
  | 76 => ⟨S16384x1x1x1, .f32⟩
  | 77 => ⟨S16384x9x1x1, .f32⟩
  | 78 => ⟨S16384x9x1x1, .f32⟩
  | 79 => ⟨S16384x9x1x9, .f32⟩
  | 80 => ⟨S16384x9x1x9, .f32⟩
  | 81 => ⟨S16384x9x1x9, .f32⟩
  | 82 => ⟨S16384x9x9x9, .f32⟩
  | 83 => ⟨S16384x9x9x9, .f32⟩
  | 84 => ⟨S16384x9x9x9, .f32⟩
  | 85 => ⟨S16384x1x1, .f32⟩
  | 86 => ⟨S16384, .f32⟩
  | 87 => ⟨S16384x1x1x1, .f32⟩
  | 88 => ⟨S16384x1x9x1, .f32⟩
  | 89 => ⟨S16384x1x9x1, .f32⟩
  | 90 => ⟨S16384x1x9x9, .f32⟩
  | 91 => ⟨S16384x1x9x9, .f32⟩
  | 92 => ⟨S16384x1x9x9, .f32⟩
  | 93 => ⟨S16384x9x9x9, .f32⟩
  | 94 => ⟨S16384x9x9x9, .f32⟩
  | 95 => ⟨S_, .f32⟩
  | 96 => ⟨S16384x9x9x9, .f32⟩
  | 97 => ⟨S16384x9x9x9, .f32⟩
  | 98 => ⟨S16384x9x9x9, .f32⟩
  | 99 => ⟨S_, .f32⟩
  | 100 => ⟨S16384x9x9x9, .f32⟩
  | 101 => ⟨S16384x9x9x9, .f32⟩
  | 102 => ⟨S16384x9x9x9, .f32⟩
  | 103 => ⟨S16384x9, .f32⟩
  | 104 => ⟨S16384x1, .f32⟩
  | 105 => ⟨S16384x9, .f32⟩
  | 106 => ⟨S16384x9, .i1⟩
  | 107 => ⟨S16384x9, .f32⟩
  | 108 => ⟨S16384x1, .f32⟩
  | 109 => ⟨S16384x9, .f32⟩
  | 110 => ⟨S16384x9, .i1⟩
  | 111 => ⟨S16384x9, .i1⟩
  | 112 => ⟨S16384x9, .f32⟩
  | 113 => ⟨S16384x1, .f32⟩
  | 114 => ⟨S16384x9, .f32⟩
  | 115 => ⟨S16384x9, .i1⟩
  | 116 => ⟨S16384x9, .f32⟩
  | 117 => ⟨S16384x1, .f32⟩
  | 118 => ⟨S16384x9, .f32⟩
  | 119 => ⟨S16384x9, .i1⟩
  | 120 => ⟨S16384x9, .i1⟩
  | 121 => ⟨S16384x9, .f32⟩
  | 122 => ⟨S16384x1, .f32⟩
  | 123 => ⟨S16384x9, .f32⟩
  | 124 => ⟨S16384x9, .i1⟩
  | 125 => ⟨S16384x9, .f32⟩
  | 126 => ⟨S16384x1, .f32⟩
  | 127 => ⟨S16384x9, .f32⟩
  | _ => ⟨S16384x3, .f32⟩

abbrev hbmTy0_2 (i : Nat) : BufTy := match i % 128 with
  | 0 => ⟨S16384x9, .i1⟩
  | 1 => ⟨S16384x9, .i1⟩
  | 2 => ⟨S16384x9x1x1, .i1⟩
  | 3 => ⟨S16384x1x9x1, .i1⟩
  | 4 => ⟨S16384x9x9x1, .i1⟩
  | 5 => ⟨S16384x9x9x1, .i1⟩
  | 6 => ⟨S16384x9x9x1, .i1⟩
  | 7 => ⟨S16384x1x1x9, .i1⟩
  | 8 => ⟨S16384x9x9x9, .i1⟩
  | 9 => ⟨S16384x9x9x9, .i1⟩
  | 10 => ⟨S16384x9x9x9, .i1⟩
  | 11 => ⟨S16384x1, .f32⟩
  | 12 => ⟨S16384, .f32⟩
  | 13 => ⟨S16384, .f32⟩
  | 14 => ⟨S16384x1, .f32⟩
  | 15 => ⟨S16384, .f32⟩
  | 16 => ⟨S16384, .f32⟩
  | 17 => ⟨S16384, .f32⟩
  | 18 => ⟨S16384, .f32⟩
  | 19 => ⟨S_, .f32⟩
  | 20 => ⟨S16384, .f32⟩
  | 21 => ⟨S16384, .i1⟩
  | 22 => ⟨S_, .f32⟩
  | 23 => ⟨S16384, .f32⟩
  | 24 => ⟨S16384, .i1⟩
  | 25 => ⟨S16384, .i1⟩
  | 26 => ⟨S16384x9x9x9, .f32⟩
  | 27 => ⟨S16384x9x9x9, .f32⟩
  | 28 => ⟨S16384x1x1x1, .i1⟩
  | 29 => ⟨S16384x1x1x1, .f32⟩
  | 30 => ⟨S16384x9x9x9, .f32⟩
  | 31 => ⟨S16384x9x9x9, .f32⟩
  | 32 => ⟨S_, .i32⟩
  | 33 => ⟨S_, .i32⟩
  | 34 => ⟨S_, .i32⟩
  | 35 => ⟨S16384x9, .i32⟩
  | 36 => ⟨S16384x9, .i32⟩
  | 37 => ⟨S_, .i32⟩
  | 38 => ⟨S16384x9, .i32⟩
  | 39 => ⟨S16384x9, .i32⟩
  | 40 => ⟨S_, .i32⟩
  | 41 => ⟨S_, .i32⟩
  | 42 => ⟨S_, .i32⟩
  | 43 => ⟨S16384x9, .i32⟩
  | 44 => ⟨S16384x9, .i32⟩
  | 45 => ⟨S_, .i32⟩
  | 46 => ⟨S16384x9, .i32⟩
  | 47 => ⟨S16384x9, .i32⟩
  | 48 => ⟨S_, .i32⟩
  | 49 => ⟨S_, .i32⟩
  | 50 => ⟨S_, .i32⟩
  | 51 => ⟨S16384x9, .i32⟩
  | 52 => ⟨S16384x9, .i32⟩
  | 53 => ⟨S_, .i32⟩
  | 54 => ⟨S16384x9, .i32⟩
  | 55 => ⟨S16384x9, .i32⟩
  | 56 => ⟨S16384x9x1x1, .i32⟩
  | 57 => ⟨S_, .i32⟩
  | 58 => ⟨S16384x9x1x1, .i32⟩
  | 59 => ⟨S16384x9x1x1, .i32⟩
  | 60 => ⟨S16384x1x9x1, .i32⟩
  | 61 => ⟨S_, .i32⟩
  | 62 => ⟨S16384x1x9x1, .i32⟩
  | 63 => ⟨S16384x1x9x1, .i32⟩
  | 64 => ⟨S16384x9x9x1, .i32⟩
  | 65 => ⟨S16384x9x9x1, .i32⟩
  | 66 => ⟨S16384x9x9x1, .i32⟩
  | 67 => ⟨S16384x1x1x9, .i32⟩
  | 68 => ⟨S16384x9x9x9, .i32⟩
  | 69 => ⟨S16384x9x9x9, .i32⟩
  | 70 => ⟨S16384x9x9x9, .i32⟩
  | 71 => ⟨S11943936, .i32⟩
  | 72 => ⟨S16384x1, .f32⟩
  | 73 => ⟨S16384, .f32⟩
  | 74 => ⟨S16384x1x1x1, .f32⟩
  | 75 => ⟨S16384x9x9x9, .f32⟩
  | 76 => ⟨S16384x9x9x9, .f32⟩
  | 77 => ⟨S11943936, .f32⟩
  | 78 => ⟨S16384x1, .f32⟩
  | 79 => ⟨S16384, .f32⟩
  | 80 => ⟨S16384x1x1x1, .f32⟩
  | 81 => ⟨S16384x9x9x9, .f32⟩
  | 82 => ⟨S16384x9x9x9, .f32⟩
  | 83 => ⟨S11943936, .f32⟩
  | 84 => ⟨S_, .f32⟩
  | 85 => ⟨S2097152, .f32⟩
  | 86 => ⟨S_, .i32⟩
  | 87 => ⟨S11943936, .i32⟩
  | 88 => ⟨S11943936, .i1⟩
  | 89 => ⟨S_, .i32⟩
  | 90 => ⟨S11943936, .i32⟩
  | 91 => ⟨S11943936, .i32⟩
  | 92 => ⟨S11943936, .i32⟩
  | 93 => ⟨S11943936x1, .i32⟩
  | 94 => ⟨S2097152, .f32⟩
  | 95 => ⟨S128x128x128, .f32⟩
  | 96 => ⟨S_, .f32⟩
  | 97 => ⟨S2097152, .f32⟩
  | 98 => ⟨S_, .i32⟩
  | 99 => ⟨S11943936, .i32⟩
  | 100 => ⟨S11943936, .i1⟩
  | 101 => ⟨S_, .i32⟩
  | 102 => ⟨S11943936, .i32⟩
  | 103 => ⟨S11943936, .i32⟩
  | 104 => ⟨S11943936, .i32⟩
  | 105 => ⟨S11943936x1, .i32⟩
  | 106 => ⟨S2097152, .f32⟩
  | 107 => ⟨S128x128x128, .f32⟩
  | 108 => ⟨S1x128x128x128, .f32⟩
  | 109 => ⟨S1x128x128x128, .f32⟩
  | 110 => ⟨S2x128x128x128, .f32⟩
  | _ => ⟨S16384x3, .f32⟩

abbrev hbmTy (i : Nat) : BufTy := match i / 128 with
  | 0 => hbmTy0_0 i
  | 1 => hbmTy0_1 i
  | 2 => hbmTy0_2 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_cst_1 : Ref sig .tc := ⟨.hbm, 16, rfl⟩
abbrev main_call2_v0 : Ref sig .tc := ⟨.hbm, 17, rfl⟩
abbrev main_call2_v1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call3_v0 : Ref sig .tc := ⟨.hbm, 22, rfl⟩
abbrev main_call3_cst : Ref sig .tc := ⟨.hbm, 23, rfl⟩
abbrev main_call3_v1 : Ref sig .tc := ⟨.hbm, 24, rfl⟩
abbrev main_call3_v2 : Ref sig .tc := ⟨.hbm, 25, rfl⟩
abbrev main_v7 : Ref sig .tc := ⟨.hbm, 26, rfl⟩
abbrev main_cst_2 : Ref sig .tc := ⟨.hbm, 27, rfl⟩
abbrev main_call4_v0 : Ref sig .tc := ⟨.hbm, 28, rfl⟩
abbrev main_call4_v1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_8 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_9 : Ref sig .tc := ⟨.hbm, 100, rfl⟩
abbrev main_call5_v0 : Ref sig .tc := ⟨.hbm, 101, rfl⟩
abbrev main_call5_v1 : Ref sig .tc := ⟨.hbm, 102, rfl⟩
abbrev main_v72 : Ref sig .tc := ⟨.hbm, 103, rfl⟩
abbrev main_v73 : Ref sig .tc := ⟨.hbm, 104, rfl⟩
abbrev main_cst_10 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_11 : Ref sig .tc := ⟨.hbm, 115, rfl⟩
abbrev main_v83 : Ref sig .tc := ⟨.hbm, 116, rfl⟩
abbrev main_cst_12 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_13 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_cst_14 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_cst_15 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_cst_16 : Ref sig .tc := ⟨.hbm, 275, rfl⟩
abbrev main_v237 : Ref sig .tc := ⟨.hbm, 276, rfl⟩
abbrev main_v238 : Ref sig .tc := ⟨.hbm, 277, rfl⟩
abbrev main_cst_17 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_c_18 : Ref sig .tc := ⟨.hbm, 288, rfl⟩
abbrev main_c_19 : Ref sig .tc := ⟨.hbm, 289, rfl⟩
abbrev main_call6_v0 : Ref sig .tc := ⟨.hbm, 290, rfl⟩
abbrev main_call6_v1 : Ref sig .tc := ⟨.hbm, 291, rfl⟩
abbrev main_call6_v2 : Ref sig .tc := ⟨.hbm, 292, rfl⟩
abbrev main_call6_v3 : Ref sig .tc := ⟨.hbm, 293, rfl⟩
abbrev main_call6_v4 : Ref sig .tc := ⟨.hbm, 294, rfl⟩
abbrev main_v248 : Ref sig .tc := ⟨.hbm, 295, rfl⟩
abbrev main_c_20 : Ref sig .tc := ⟨.hbm, 296, rfl⟩
abbrev main_c_21 : Ref sig .tc := ⟨.hbm, 297, rfl⟩
abbrev main_call7_v0 : Ref sig .tc := ⟨.hbm, 298, rfl⟩
abbrev main_call7_v1 : Ref sig .tc := ⟨.hbm, 299, rfl⟩
abbrev main_call7_v2 : Ref sig .tc := ⟨.hbm, 300, rfl⟩
abbrev main_call7_v3 : Ref sig .tc := ⟨.hbm, 301, rfl⟩
abbrev main_call7_v4 : Ref sig .tc := ⟨.hbm, 302, rfl⟩
abbrev main_v249 : Ref sig .tc := ⟨.hbm, 303, rfl⟩
abbrev main_c_22 : Ref sig .tc := ⟨.hbm, 304, rfl⟩
abbrev main_c_23 : Ref sig .tc := ⟨.hbm, 305, rfl⟩
abbrev main_call8_v0 : Ref sig .tc := ⟨.hbm, 306, rfl⟩
abbrev main_call8_v1 : Ref sig .tc := ⟨.hbm, 307, rfl⟩
abbrev main_call8_v2 : Ref sig .tc := ⟨.hbm, 308, rfl⟩
abbrev main_call8_v3 : Ref sig .tc := ⟨.hbm, 309, rfl⟩
abbrev main_call8_v4 : Ref sig .tc := ⟨.hbm, 310, rfl⟩
abbrev main_v250 : Ref sig .tc := ⟨.hbm, 311, rfl⟩
abbrev main_v251 : Ref sig .tc := ⟨.hbm, 312, rfl⟩
abbrev main_c_24 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_c_25 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_cst_26 : Ref sig .tc := ⟨.hbm, 340, rfl⟩
abbrev main_v277 : Ref sig .tc := ⟨.hbm, 341, rfl⟩
abbrev main_c_27 : Ref sig .tc := ⟨.hbm, 342, rfl⟩
abbrev main_v278 : Ref sig .tc := ⟨.hbm, 343, rfl⟩
abbrev main_v279 : Ref sig .tc := ⟨.hbm, 344, rfl⟩
abbrev main_c_28 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_cst_29 : Ref sig .tc := ⟨.hbm, 352, rfl⟩
abbrev main_v286 : Ref sig .tc := ⟨.hbm, 353, rfl⟩
abbrev main_c_30 : Ref sig .tc := ⟨.hbm, 354, rfl⟩
abbrev main_v287 : Ref sig .tc := ⟨.hbm, 355, rfl⟩
abbrev main_v288 : Ref sig .tc := ⟨.hbm, 356, rfl⟩
abbrev main_c_31 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩

abbrev nD : Nat := 1
abbrev τ : Topo := Topo.v7x

variable {F : FTy → Type} [FloatOps F]
-- ==== Proof.KernelIdealRun.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

/-! # One grid step of the kernel, run

The body is run once for step 0, which first copies the zero volume over the result's buffer, and once for a later
step, which finds the result so far there. Each run says what the result's buffer holds afterwards: its contents before,
overwritten by the list of stores the run found. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-- One assumed side condition: a window of nine planes and two row groups starting at `v ≤ 119`, `w ≤ 14` lies inside. -/
theorem chk_of (v w : BitVec 32) (hv : v.toNat ≤ 119) (hw : w.toNat ≤ 14) : k0_chk1 v w := by
  intro a
  unfold k0_off1
  fin_cases a <;> simp [S2x9x2x8x128, S2x128x16x8x128, Scalar.indexCast] <;> omega

/-- A word read from a table whose words are at most `n` is at most `n`. -/
theorem word_le (M : Memref sig .tc .smem S1x1x32 .i32) (x : Vec F S1x1x32 .i32) {n : ℕ}
    (h : ∀ j, (x j : BitVec 32).toNat ≤ n) (r : LoadRect S1x1x32) (j) :
    (View.readAt (Elt F) M.view r (M.view.rep x) j : BitVec 32).toNat ≤ n := by
  rw [View.readAt_rep]; exact h _

/-- Contents of a memref's elements are owned at what the memref reads of them. -/
theorem pts_owns (c : Dev nD) {sp : Space} {S : Shape} {e : EltTy} (M : Memref sig .tc sp S e)
    (f : Buf (Elt F) (M.view.loc (c : Thread nD τ))) :
    (M.view.loc (c : Thread nD τ) ↦[M.view.set]{fullShare} f : sProp 𝕄)
      ⊢ (M.view.loc (c : Thread nD τ) ↦[M.view.set]{fullShare} M.view.rep (M.view.read (Elt F) f)) := by
  rw [← owns_eq_rep]; unfold owns
  iintro H; iexists f; isplitr; · ipureintro; rfl
  iexact H

set_option maxHeartbeats 4000000 in
/-- A later step: the result's buffer holds what it held, overwritten by the stores found. -/
noncomputable def runNext (c : Dev nD) (i : grid0.Coords) (hi : ¬ (Scalar.cmpi .ne (Scalar.extui (Scalar.cmpi .eq (BitVec.ofNat 32 (i 0).val) 0#32) : BitVec 32) 0#32 = 1#1))
    (arg1 : Memref sig .tc .hbm S2x128x16x8x128 .f32) (harg1 : arg1.IsWhole)
    (arg2 : Memref sig .tc .smem S1x1x32 .i32) (harg2 : arg2.IsWhole) (arg3 : Memref sig .tc .smem S1x1x32 .i32) (harg3 : arg3.IsWhole)
    (arg4 : Memref sig .tc .vmem S32x1 .f32) (harg4 : arg4.IsWhole) (arg5 : Memref sig .tc .vmem S32x1 .f32) (harg5 : arg5.IsWhole)
    (arg6 : Memref sig .tc .vmem S32x1 .f32) (harg6 : arg6.IsWhole) (arg7 : Memref sig .tc .vmem S32x1 .f32) (harg7 : arg7.IsWhole)
    (arg8 : Memref sig .tc .vmem S32x1 .f32) (harg8 : arg8.IsWhole) (arg9 : Memref sig .tc .vmem S32x1 .f32) (harg9 : arg9.IsWhole)
    (arg10 : Memref sig .tc .vmem S32x1 .f32) (harg10 : arg10.IsWhole) (arg11 : Memref sig .tc .vmem S32x1 .f32) (harg11 : arg11.IsWhole)
    (arg12 : Memref sig .tc .vmem S32x1 .f32) (harg12 : arg12.IsWhole) (arg13 : Memref sig .tc .vmem S32x1 .f32) (harg13 : arg13.IsWhole)
    (arg14 : Memref sig .tc .vmem S32x1 .f32) (harg14 : arg14.IsWhole) (arg15 : Memref sig .tc .vmem S32x1 .f32) (harg15 : arg15.IsWhole)
    (arg16 : Memref sig .tc .vmem S2x128x16x8x128 .f32) (harg16 : arg16.IsWhole) (arg17 : Memref sig .tc .vmem S2x32x9x2x8x128 .f32) (harg17 : arg17.IsWhole)
    (x1 : Vec F S2x128x16x8x128 .f32) (x2 x3 : Vec F S1x1x32 .i32) (x4 x5 x6 x7 x8 x9 x10 x11 x12 x13 x14 x15 : Vec F S32x1 .f32)
    (x16 : Vec F S2x128x16x8x128 .f32)
    (h2 : ∀ j, (x2 j : BitVec 32).toNat ≤ 119) (h3 : ∀ j, (x3 j : BitVec 32).toNat ≤ 14) :
    { out : Vec F S2x128x16x8x128 .f32 //
      ∀ (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗
            owns (c : Thread nD τ) arg5 fullShare x5 ∗ owns (c : Thread nD τ) arg6 fullShare x6 ∗ owns (c : Thread nD τ) arg7 fullShare x7 ∗ owns (c : Thread nD τ) arg8 fullShare x8 ∗
            owns (c : Thread nD τ) arg9 fullShare x9 ∗ owns (c : Thread nD τ) arg10 fullShare x10 ∗ owns (c : Thread nD τ) arg11 fullShare x11 ∗ owns (c : Thread nD τ) arg12 fullShare x12 ∗
            owns (c : Thread nD τ) arg13 fullShare x13 ∗ owns (c : Thread nD τ) arg14 fullShare x14 ∗ owns (c : Thread nD τ) arg15 fullShare x15
          ∗ owns (c : Thread nD τ) arg16 fullShare x16
          ∗ (∃ d, owns (c : Thread nD τ) arg17 fullShare d)
          ∗ semVal ((c : Thread nD τ), SemLoc.dma 29) 0 ∗ owes (c : Thread nD τ) 0 W
          ∗ (iprop(owns (c : Thread nD τ) arg1 fullShare x1 ∗ owns (c : Thread nD τ) arg2 fullShare x2 ∗ owns (c : Thread nD τ) arg3 fullShare x3 ∗ owns (c : Thread nD τ) arg4 fullShare x4 ∗
                owns (c : Thread nD τ) arg5 fullShare x5 ∗ owns (c : Thread nD τ) arg6 fullShare x6 ∗ owns (c : Thread nD τ) arg7 fullShare x7 ∗ owns (c : Thread nD τ) arg8 fullShare x8 ∗
                owns (c : Thread nD τ) arg9 fullShare x9 ∗ owns (c : Thread nD τ) arg10 fullShare x10 ∗ owns (c : Thread nD τ) arg11 fullShare x11 ∗ owns (c : Thread nD τ) arg12 fullShare x12 ∗
                owns (c : Thread nD τ) arg13 fullShare x13 ∗ owns (c : Thread nD τ) arg14 fullShare x14 ∗ owns (c : Thread nD τ) arg15 fullShare x15
              ∗ owns (c : Thread nD τ) arg16 fullShare out
              ∗ (∃ d, owns (c : Thread nD τ) arg17 fullShare d)
              ∗ semVal ((c : Thread nD τ), SemLoc.dma 29) 0 ∗ (∃ W', owes (c : Thread nD τ) 0 W')) -∗ K ⟨⟩))
          ⊢ wp frame (wpE (defs₀ (F := F)) Variants.none c none) Set.univ
              (cc0__splat_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch1) K } := by
  refine ⟨?_, fun W K => ?run⟩
  case run =>
    simp only [cc0__splat_kernel_eq_skeleton]; unfold cc0__splat_kernel_skel
    simp only [owns_eq_rep]
    iintro ⟨H1, H2, H3, H4, H5, H6, H7, H8, H9, H10, H11, H12, H13, H14, H15, H16, ⟨%x17, H17⟩, Hq, HW, Hk⟩
    sl_exec_parts (disch := (exact chk_of _ _ (word_le _ _ h2 _ _) (word_le _ _ h3 _ _)))
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iapply (pts_owns c arg16 _); iexact H16
    isplitl [H17]; · iexists _; iapply (pts_owns c arg17 _); iexact H17
    isplitl [Hq]; · iexact Hq
    iexists _; iexact HW

set_option maxHeartbeats 4000000 in
/-- Step 0: the zero volume is copied in first. -/
noncomputable def runFirst (c : Dev nD) (i : grid0.Coords) (hi : Scalar.cmpi .ne (Scalar.extui (Scalar.cmpi .eq (BitVec.ofNat 32 (i 0).val) 0#32) : BitVec 32) 0#32 = 1#1)
    (arg1 : Memref sig .tc .hbm S2x128x16x8x128 .f32) (harg1 : arg1.IsWhole)
    (arg2 : Memref sig .tc .smem S1x1x32 .i32) (harg2 : arg2.IsWhole) (arg3 : Memref sig .tc .smem S1x1x32 .i32) (harg3 : arg3.IsWhole)
    (arg4 : Memref sig .tc .vmem S32x1 .f32) (harg4 : arg4.IsWhole) (arg5 : Memref sig .tc .vmem S32x1 .f32) (harg5 : arg5.IsWhole)
    (arg6 : Memref sig .tc .vmem S32x1 .f32) (harg6 : arg6.IsWhole) (arg7 : Memref sig .tc .vmem S32x1 .f32) (harg7 : arg7.IsWhole)
    (arg8 : Memref sig .tc .vmem S32x1 .f32) (harg8 : arg8.IsWhole) (arg9 : Memref sig .tc .vmem S32x1 .f32) (harg9 : arg9.IsWhole)
    (arg10 : Memref sig .tc .vmem S32x1 .f32) (harg10 : arg10.IsWhole) (arg11 : Memref sig .tc .vmem S32x1 .f32) (harg11 : arg11.IsWhole)
    (arg12 : Memref sig .tc .vmem S32x1 .f32) (harg12 : arg12.IsWhole) (arg13 : Memref sig .tc .vmem S32x1 .f32) (harg13 : arg13.IsWhole)
    (arg14 : Memref sig .tc .vmem S32x1 .f32) (harg14 : arg14.IsWhole) (arg15 : Memref sig .tc .vmem S32x1 .f32) (harg15 : arg15.IsWhole)
    (arg16 : Memref sig .tc .vmem S2x128x16x8x128 .f32) (harg16 : arg16.IsWhole) (arg17 : Memref sig .tc .vmem S2x32x9x2x8x128 .f32) (harg17 : arg17.IsWhole)
    (x1 : Vec F S2x128x16x8x128 .f32) (x2 x3 : Vec F S1x1x32 .i32) (x4 x5 x6 x7 x8 x9 x10 x11 x12 x13 x14 x15 : Vec F S32x1 .f32)
    (x16 : Vec F S2x128x16x8x128 .f32)
    (h2 : ∀ j, (x2 j : BitVec 32).toNat ≤ 119) (h3 : ∀ j, (x3 j : BitVec 32).toNat ≤ 14) :
    { out : Vec F S2x128x16x8x128 .f32 //
      ∀ (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗
            owns (c : Thread nD τ) arg5 fullShare x5 ∗ owns (c : Thread nD τ) arg6 fullShare x6 ∗ owns (c : Thread nD τ) arg7 fullShare x7 ∗ owns (c : Thread nD τ) arg8 fullShare x8 ∗
            owns (c : Thread nD τ) arg9 fullShare x9 ∗ owns (c : Thread nD τ) arg10 fullShare x10 ∗ owns (c : Thread nD τ) arg11 fullShare x11 ∗ owns (c : Thread nD τ) arg12 fullShare x12 ∗
            owns (c : Thread nD τ) arg13 fullShare x13 ∗ owns (c : Thread nD τ) arg14 fullShare x14 ∗ owns (c : Thread nD τ) arg15 fullShare x15
          ∗ owns (c : Thread nD τ) arg16 fullShare x16
          ∗ (∃ d, owns (c : Thread nD τ) arg17 fullShare d)
          ∗ semVal ((c : Thread nD τ), SemLoc.dma 29) 0 ∗ owes (c : Thread nD τ) 0 W
          ∗ (iprop(owns (c : Thread nD τ) arg1 fullShare x1 ∗ owns (c : Thread nD τ) arg2 fullShare x2 ∗ owns (c : Thread nD τ) arg3 fullShare x3 ∗ owns (c : Thread nD τ) arg4 fullShare x4 ∗
                owns (c : Thread nD τ) arg5 fullShare x5 ∗ owns (c : Thread nD τ) arg6 fullShare x6 ∗ owns (c : Thread nD τ) arg7 fullShare x7 ∗ owns (c : Thread nD τ) arg8 fullShare x8 ∗
                owns (c : Thread nD τ) arg9 fullShare x9 ∗ owns (c : Thread nD τ) arg10 fullShare x10 ∗ owns (c : Thread nD τ) arg11 fullShare x11 ∗ owns (c : Thread nD τ) arg12 fullShare x12 ∗
                owns (c : Thread nD τ) arg13 fullShare x13 ∗ owns (c : Thread nD τ) arg14 fullShare x14 ∗ owns (c : Thread nD τ) arg15 fullShare x15
              ∗ owns (c : Thread nD τ) arg16 fullShare out
              ∗ (∃ d, owns (c : Thread nD τ) arg17 fullShare d)
              ∗ semVal ((c : Thread nD τ), SemLoc.dma 29) 0 ∗ (∃ W', owes (c : Thread nD τ) 0 W')) -∗ K ⟨⟩))
          ⊢ wp frame (wpE (defs₀ (F := F)) Variants.none c none) Set.univ
              (cc0__splat_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 cc0_scratch1) K } := by
  refine ⟨?_, fun W K => ?run⟩
  case run =>
    simp only [cc0__splat_kernel_eq_skeleton]; unfold cc0__splat_kernel_skel
    simp only [owns_eq_rep]
    iintro ⟨H1, H2, H3, H4, H5, H6, H7, H8, H9, H10, H11, H12, H13, H14, H15, H16, ⟨%x17, H17⟩, Hq, HW, Hk⟩
    sl_exec_parts (disch := (exact chk_of _ _ (word_le _ _ h2 _ _) (word_le _ _ h3 _ _)))
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iapply (pts_owns c arg16 _); iexact H16
    isplitl [H17]; · iexists _; iapply (pts_owns c arg17 _); iexact H17
    isplitl [Hq]; · iexact Hq
    iexists _; iexact HW

end Cert.KernelIdeal.Hand

end
-- ==== Proof.KernelIdealStep.lean ====
module

public import proofs.«01_k».proof.Proof.KernelIdealRun
public import Idealize.ShloMosaic.Lib.VecWindow
public import Idealize.ShloMosaic.Lib.Pointwise

@[expose] public section

set_option maxRecDepth 16384

/-! # What one grid step leaves in the result's buffer

Each step adds 32 patches, one per point, into windows of nine planes and two row groups: a chain of 32 additions over what
the buffer held. -/

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- `X` with the patch `w` added over planes `a … a+8` and row groups `b, b+1`. -/
def addAt (X : Vec F S2x128x16x8x128 .f32) (a b : ℕ) (w : Vec F S2x1x9x2x8x128 .f32) : Vec F S2x128x16x8x128 .f32 := fun y =>
  if h : (a ≤ (y 1).val ∧ (y 1).val < a + 9) ∧ (b ≤ (y 2).val ∧ (y 2).val < b + 2) then
    FloatOps.addf (X y) (w (ix6 (y 0) 0 ⟨(y 1).val - a, by omega⟩ ⟨(y 2).val - b, by omega⟩ (y 3) (y 4)))
  else X y

/-- An index inside the window, read off the window's own corner. -/
theorem unitLocal_ix (y0 : Fin 2) (y1 : Fin 128) (y2 : Fin 16) (y3 : Fin 8) (y4 : Fin 128) (a b : ℕ)
    (h : (a ≤ y1.val ∧ y1.val < a + 9) ∧ (b ≤ y2.val ∧ y2.val < b + 2))
    (H : ∀ q : Fin 5, (![0, a, b, 0, 0] : Fin 5 → ℕ) q ≤ (ix5 y0 y1 y2 y3 y4 q).val ∧ (ix5 y0 y1 y2 y3 y4 q).val < (![0, a, b, 0, 0] : Fin 5 → ℕ) q + S2x9x2x8x128.size q) :
    (Rect.unitLocal (s := S2x128x16x8x128) (off := ![0, a, b, 0, 0]) (size := S2x9x2x8x128.size) (ix5 y0 y1 y2 y3 y4) H : S2x9x2x8x128.Idx)
      = (ix5 y0 ⟨y1.val - a, by omega⟩ ⟨y2.val - b, by omega⟩ y3 y4 : (⟨5, ![2, 9, 2, 8, 128]⟩ : Shape).Idx) := by
  funext q
  fin_cases q <;> exact Fin.ext rfl

/-- Inside the window the patch is added. -/
theorem addAt_pos (X : Vec F S2x128x16x8x128 .f32) (w : Vec F S2x1x9x2x8x128 .f32) {y0 : Fin 2} {y1 : Fin 128} {y2 : Fin 16} {y3 : Fin 8} {y4 : Fin 128} {a b : ℕ}
    (h : (a ≤ y1.val ∧ y1.val < a + 9) ∧ (b ≤ y2.val ∧ y2.val < b + 2)) :
    addAt X a b w (ix5 y0 y1 y2 y3 y4) = FloatOps.addf (X (ix5 y0 y1 y2 y3 y4)) (w (ix6 y0 0 ⟨y1.val - a, by omega⟩ ⟨y2.val - b, by omega⟩ y3 y4)) := by
  unfold addAt; split_ifs with h'
  · rfl
  · exact absurd h h'

/-- Outside the window nothing changes. -/
theorem addAt_neg (X : Vec F S2x128x16x8x128 .f32) (w : Vec F S2x1x9x2x8x128 .f32) {y0 : Fin 2} {y1 : Fin 128} {y2 : Fin 16} {y3 : Fin 8} {y4 : Fin 128} {a b : ℕ}
    (h : ¬ ((a ≤ y1.val ∧ y1.val < a + 9) ∧ (b ≤ y2.val ∧ y2.val < b + 2))) :
    addAt X a b w (ix5 y0 y1 y2 y3 y4) = X (ix5 y0 y1 y2 y3 y4) := by
  unfold addAt; split_ifs with h'
  · exact absurd h' h
  · rfl

/-- One read-add-store of a window leaves the buffer with the patch added there. -/
theorem rmw (M : Memref sig .tc .vmem S2x128x16x8x128 .f32) (f : M.view.ty.Contents (Elt F)) (L : List (View.Piece (Elt F) S2x128x16x8x128 .f32))
    (X : Vec F S2x128x16x8x128 .f32) (off : Fin 5 → ℕ) (inb : ∀ a, off a + S2x9x2x8x128.size a ≤ S2x128x16x8x128.size a)
    (v : Vec F S2x9x2x8x128 .f32) (w w' : Vec F S2x1x9x2x8x128 .f32) (a b : ℕ)
    (hv : v = View.readAt (Elt F) M.view (Rect.unit (s := S2x128x16x8x128) off S2x9x2x8x128.size inb).toLoadRect (M.view.writes (Elt F) f L))
    (ho : off = ![0, a, b, 0, 0]) (hw : w = w') (hX : M.view.read (Elt F) (M.view.writes (Elt F) f L) = X) :
    M.view.read (Elt F) (M.view.writes (Elt F) f (⟨Rect.unit (s := S2x128x16x8x128) off S2x9x2x8x128.size inb, k0_pay117 v w⟩ :: L)) = addAt X a b w' := by
  subst ho hw hX
  rw [View.read_writes_cons_put M.view f inb _ L rfl]
  rw [View.readAt_unit M.view _ inb rfl inb] at hv
  subst hv
  generalize M.view.read (Elt F) (M.view.writes (Elt F) f L) = X
  funext y
  idx_vars y
  by_cases h : (a ≤ y1.val ∧ y1.val < a + 9) ∧ (b ≤ y2.val ∧ y2.val < b + 2)
  · have H : ∀ q : Fin 5, (![0, a, b, 0, 0] : Fin 5 → ℕ) q ≤ (ix5 y0 y1 y2 y3 y4 q).val ∧ (ix5 y0 y1 y2 y3 y4 q).val < (![0, a, b, 0, 0] : Fin 5 → ℕ) q + S2x9x2x8x128.size q := by
      intro q; fin_cases q
      · exact ⟨Nat.zero_le _, by have := y0.isLt; show y0.val < 0 + 2; omega⟩
      · exact h.1
      · exact h.2
      · exact ⟨Nat.zero_le _, by have := y3.isLt; show y3.val < 0 + 8; omega⟩
      · exact ⟨Nat.zero_le _, by have := y4.isLt; show y4.val < 0 + 128; omega⟩
    refine (dif_pos H).trans (Eq.trans ?_ (addAt_pos X w h).symm)
    rw [unitLocal_ix y0 y1 y2 y3 y4 a b h H]
    unfold k0_pay117
    pointwise
    congr 1
    unfold VecWindow.window
    congr 1
    funext q
    fin_cases q
    · exact Fin.ext (show 0 + 1 * y0.val = y0.val by omega)
    · exact Fin.ext (show a + 1 * (y1.val - a) = y1.val by omega)
    · exact Fin.ext (show b + 1 * (y2.val - b) = y2.val by omega)
    · exact Fin.ext (show 0 + 1 * y3.val = y3.val by omega)
    · exact Fin.ext (show 0 + 1 * y4.val = y4.val by omega)
  · exact (dif_neg fun hh => h ⟨hh 1, hh 2⟩).trans (addAt_neg X w h).symm

/-- A word of a table, read where the table is kept. -/
theorem word_at (M : Memref sig .tc .smem S1x1x32 .i32) (x : Vec F S1x1x32 .i32) (k : Fin 32) (off : Fin 3 → ℕ) (ho : off = ![0, 0, k.val])
    (inb : ∀ a, off a + S1x1x1.size a ≤ S1x1x32.size a) (j) :
    View.readAt (Elt F) M.view (Rect.unit (s := S1x1x32) off S1x1x1.size inb).toLoadRect (M.view.rep x) j = x (ix3 0 0 k) := by
  subst ho
  rw [View.readAt_rep]
  show x _ = x _
  congr 1
  funext q
  have hj : ∀ q : Fin 3, (j q).val < 1 := fun q => by have := (j q).isLt; fin_cases q <;> exact this
  fin_cases q
  · exact Fin.ext (show 0 + 1 * (j 0).val = 0 by have := hj 0; omega)
  · exact Fin.ext (show 0 + 1 * (j 1).val = 0 by have := hj 1; omega)
  · exact Fin.ext (show k.val + 1 * (j 2).val = k.val by have := hj 2; omega)

/-- The corner of a window, from the two words that place it. -/
theorem off_of (p q : BitVec 32) (a b : ℕ) (hp : p.toNat = a) (hq : q.toNat = b) : k0_off1 p q = ![0, a, b, 0, 0] := by
  subst hp hq
  unfold k0_off1
  rfl

/-- Patch `k` of the 32 patches a step computes. -/
def patch (P : Vec F S2x32x9x2x8x128 .f32) (k : Fin 32) : Vec F S2x1x9x2x8x128 .f32 := fun y => P (ix6 (y 0) k (y 2) (y 3) (y 4) (y 5))

/-- The buffer after the first `n` of a step's additions. -/
def chain (x2 x3 : Vec F S1x1x32 .i32) (P : Vec F S2x32x9x2x8x128 .f32) (X : Vec F S2x128x16x8x128 .f32) : ℕ → Vec F S2x128x16x8x128 .f32
  | 0 => X
  | n + 1 => addAt (chain x2 x3 P X n) (x2 (ix3 0 0 (Fin.ofNat 32 n)) : BitVec 32).toNat (x3 (ix3 0 0 (Fin.ofNat 32 n)) : BitVec 32).toNat (patch P (Fin.ofNat 32 n))

/-- One more read-add-store is one more step of the chain. -/
theorem rmw_chain (x2 x3 : Vec F S1x1x32 .i32) (P : Vec F S2x32x9x2x8x128 .f32) (X : Vec F S2x128x16x8x128 .f32) (n : ℕ)
    (M : Memref sig .tc .vmem S2x128x16x8x128 .f32) (f : M.view.ty.Contents (Elt F)) (L : List (View.Piece (Elt F) S2x128x16x8x128 .f32))
    (p q : BitVec 32) (inb : ∀ a, k0_off1 p q a + S2x9x2x8x128.size a ≤ S2x128x16x8x128.size a)
    (v : Vec F S2x9x2x8x128 .f32) (w : Vec F S2x1x9x2x8x128 .f32)
    (hv : v = View.readAt (Elt F) M.view (Rect.unit (s := S2x128x16x8x128) (k0_off1 p q) S2x9x2x8x128.size inb).toLoadRect (M.view.writes (Elt F) f L))
    (hp : p = x2 (ix3 0 0 (Fin.ofNat 32 n))) (hq : q = x3 (ix3 0 0 (Fin.ofNat 32 n))) (hw : w = patch P (Fin.ofNat 32 n))
    (hX : M.view.read (Elt F) (M.view.writes (Elt F) f L) = chain x2 x3 P X n) :
    M.view.read (Elt F) (M.view.writes (Elt F) f (⟨Rect.unit (s := S2x128x16x8x128) (k0_off1 p q) S2x9x2x8x128.size inb, k0_pay117 v w⟩ :: L)) = chain x2 x3 P X (n + 1) :=
  rmw M f L _ _ inb v w _ _ _ hv (off_of p q _ _ (congrArg _ hp) (congrArg _ hq)) hw hX

/-- The same where the loaded window was already reshaped when the addition reads it. -/
theorem rmw_chain_split (x2 x3 : Vec F S1x1x32 .i32) (P : Vec F S2x32x9x2x8x128 .f32) (X : Vec F S2x128x16x8x128 .f32) (n : ℕ)
    (M : Memref sig .tc .vmem S2x128x16x8x128 .f32) (f : M.view.ty.Contents (Elt F)) (L : List (View.Piece (Elt F) S2x128x16x8x128 .f32))
    (p q : BitVec 32) (inb : ∀ a, k0_off1 p q a + S2x9x2x8x128.size a ≤ S2x128x16x8x128.size a)
    (v u : Vec F S2x9x2x8x128 .f32) (w : Vec F S2x1x9x2x8x128 .f32) (hu : u = k0_pay124 v)
    (hv : v = View.readAt (Elt F) M.view (Rect.unit (s := S2x128x16x8x128) (k0_off1 p q) S2x9x2x8x128.size inb).toLoadRect (M.view.writes (Elt F) f L))
    (hp : p = x2 (ix3 0 0 (Fin.ofNat 32 n))) (hq : q = x3 (ix3 0 0 (Fin.ofNat 32 n))) (hw : w = patch P (Fin.ofNat 32 n))
    (hX : M.view.read (Elt F) (M.view.writes (Elt F) f L) = chain x2 x3 P X n) :
    M.view.read (Elt F) (M.view.writes (Elt F) f (⟨Rect.unit (s := S2x128x16x8x128) (k0_off1 p q) S2x9x2x8x128.size inb, k0_pay125 u w⟩ :: L)) = chain x2 x3 P X (n + 1) := by
  subst hu
  exact rmw_chain x2 x3 P X n M f L p q inb v w hv hp hq hw hX

/-- Reading one patch out of the scratch. -/
theorem patch_at (M : Memref sig .tc .vmem S2x32x9x2x8x128 .f32) (L : List (View.Piece (Elt F) S2x32x9x2x8x128 .f32)) (P : Vec F S2x32x9x2x8x128 .f32)
    (hP : P = M.view.read (Elt F) (M.view.writes (Elt F) M.view.junk L)) (k : Fin 32) (off : Fin 6 → ℕ)
    (ho : off = ![0, k.val, 0, 0, 0, 0]) (inb : ∀ a, off a + S2x1x9x2x8x128.size a ≤ S2x32x9x2x8x128.size a) :
    M.view.readCov L (Rect.unit (s := S2x32x9x2x8x128) off S2x1x9x2x8x128.size inb).toLoadRect
      = patch P k := by
  subst ho hP
  show View.readAt (Elt F) M.view _ _ = _
  rw [View.readAt_unit M.view _ inb rfl inb]
  funext y
  unfold VecWindow.window patch
  congr 1
  have h1 : (y 1).val < 1 := (y 1).isLt
  funext q
  fin_cases q
  · exact Fin.ext (show 0 + 1 * (y 0).val = (y 0).val by omega)
  · exact Fin.ext (show k.val + 1 * (y 1).val = k.val by omega)
  · exact Fin.ext (show 0 + 1 * (y 2).val = (y 2).val by omega)
  · exact Fin.ext (show 0 + 1 * (y 3).val = (y 3).val by omega)
  · exact Fin.ext (show 0 + 1 * (y 4).val = (y 4).val by omega)
  · exact Fin.ext (show 0 + 1 * (y 5).val = (y 5).val by omega)

end Cert.KernelIdeal.Hand

end
-- ==== Proof.KernelIdealChain.lean ====
module

public import proofs.«01_k».proof.Proof.KernelIdealStep

@[expose] public section

set_option maxRecDepth 16384

/-! # The two runs of the step, as chains of additions -/

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The patches a step stores in the scratch, from its input blocks. -/
def patches (arg17 : Memref sig .tc .vmem S2x32x9x2x8x128 .f32) (arg4 arg5 arg6 arg7 arg8 arg9 arg10 arg11 arg12 arg13 arg14 arg15 : Memref sig .tc .vmem S32x1 .f32) (x4 x5 x6 x7 x8 x9 x10 x11 x12 x13 x14 x15 : Vec F S32x1 .f32) : Vec F S2x32x9x2x8x128 .f32 :=
  arg17.view.read (Elt F) (arg17.view.writes (Elt F) arg17.view.junk (runNext.sl.H17_18 arg4 arg5 arg6 arg7 arg8 arg9 arg10 arg11 arg12 arg13 arg14 arg15 x4 x5 x6 x7 x8 x9 x10 x11 x12 x13 x14 x15))

set_option maxHeartbeats 800000 in
/-- A later step adds its 32 patches to what the buffer held. -/
theorem runNext_eq (c : Dev nD) (i : grid0.Coords) (hi : ¬ (Scalar.cmpi .ne (Scalar.extui (Scalar.cmpi .eq (BitVec.ofNat 32 (i 0).val) 0#32) : BitVec 32) 0#32 = 1#1))
    (arg1 : Memref sig .tc .hbm S2x128x16x8x128 .f32) (harg1 : arg1.IsWhole)
    (arg2 : Memref sig .tc .smem S1x1x32 .i32) (harg2 : arg2.IsWhole) (arg3 : Memref sig .tc .smem S1x1x32 .i32) (harg3 : arg3.IsWhole)
    (arg4 : Memref sig .tc .vmem S32x1 .f32) (harg4 : arg4.IsWhole) (arg5 : Memref sig .tc .vmem S32x1 .f32) (harg5 : arg5.IsWhole)
    (arg6 : Memref sig .tc .vmem S32x1 .f32) (harg6 : arg6.IsWhole) (arg7 : Memref sig .tc .vmem S32x1 .f32) (harg7 : arg7.IsWhole)
    (arg8 : Memref sig .tc .vmem S32x1 .f32) (harg8 : arg8.IsWhole) (arg9 : Memref sig .tc .vmem S32x1 .f32) (harg9 : arg9.IsWhole)
    (arg10 : Memref sig .tc .vmem S32x1 .f32) (harg10 : arg10.IsWhole) (arg11 : Memref sig .tc .vmem S32x1 .f32) (harg11 : arg11.IsWhole)
    (arg12 : Memref sig .tc .vmem S32x1 .f32) (harg12 : arg12.IsWhole) (arg13 : Memref sig .tc .vmem S32x1 .f32) (harg13 : arg13.IsWhole)
    (arg14 : Memref sig .tc .vmem S32x1 .f32) (harg14 : arg14.IsWhole) (arg15 : Memref sig .tc .vmem S32x1 .f32) (harg15 : arg15.IsWhole)
    (arg16 : Memref sig .tc .vmem S2x128x16x8x128 .f32) (harg16 : arg16.IsWhole) (arg17 : Memref sig .tc .vmem S2x32x9x2x8x128 .f32) (harg17 : arg17.IsWhole)
    (x1 : Vec F S2x128x16x8x128 .f32) (x2 x3 : Vec F S1x1x32 .i32) (x4 x5 x6 x7 x8 x9 x10 x11 x12 x13 x14 x15 : Vec F S32x1 .f32)
    (x16 : Vec F S2x128x16x8x128 .f32)
    (h2 : ∀ j, (x2 j : BitVec 32).toNat ≤ 119) (h3 : ∀ j, (x3 j : BitVec 32).toNat ≤ 14) :
    (runNext c i hi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 h2 h3).1 = chain x2 x3 (patches arg17 arg4 arg5 arg6 arg7 arg8 arg9 arg10 arg11 arg12 arg13 arg14 arg15 x4 x5 x6 x7 x8 x9 x10 x11 x12 x13 x14 x15) x16 32 := by
  show arg16.view.read (Elt F) (arg16.view.writes (Elt F) (arg16.view.rep x16) _) = _
  iterate 4
    refine rmw_chain x2 x3 _ x16 _ arg16 _ _ _ _ _ _ _ rfl ?_ ?_ ?_ ?_
    · exact word_at arg2 x2 (Fin.ofNat 32 _) _ (by rfl) _ _
    · exact word_at arg3 x3 (Fin.ofNat 32 _) _ (by rfl) _ _
    · exact patch_at arg17 _ _ rfl (Fin.ofNat 32 _) _ (by rfl) _
  iterate 1
    refine rmw_chain_split x2 x3 _ x16 _ arg16 _ _ _ _ _ _ _ _ rfl rfl ?_ ?_ ?_ ?_
    · exact word_at arg2 x2 (Fin.ofNat 32 _) _ (by rfl) _ _
    · exact word_at arg3 x3 (Fin.ofNat 32 _) _ (by rfl) _ _
    · exact patch_at arg17 _ _ rfl (Fin.ofNat 32 _) _ (by rfl) _
  iterate 8
    refine rmw_chain x2 x3 _ x16 _ arg16 _ _ _ _ _ _ _ rfl ?_ ?_ ?_ ?_
    · exact word_at arg2 x2 (Fin.ofNat 32 _) _ (by rfl) _ _
    · exact word_at arg3 x3 (Fin.ofNat 32 _) _ (by rfl) _ _
    · exact patch_at arg17 _ _ rfl (Fin.ofNat 32 _) _ (by rfl) _
  iterate 1
    refine rmw_chain_split x2 x3 _ x16 _ arg16 _ _ _ _ _ _ _ _ rfl rfl ?_ ?_ ?_ ?_
    · exact word_at arg2 x2 (Fin.ofNat 32 _) _ (by rfl) _ _
    · exact word_at arg3 x3 (Fin.ofNat 32 _) _ (by rfl) _ _
    · exact patch_at arg17 _ _ rfl (Fin.ofNat 32 _) _ (by rfl) _
  iterate 1
    refine rmw_chain x2 x3 _ x16 _ arg16 _ _ _ _ _ _ _ rfl ?_ ?_ ?_ ?_
    · exact word_at arg2 x2 (Fin.ofNat 32 _) _ (by rfl) _ _
    · exact word_at arg3 x3 (Fin.ofNat 32 _) _ (by rfl) _ _
    · exact patch_at arg17 _ _ rfl (Fin.ofNat 32 _) _ (by rfl) _
  iterate 1
    refine rmw_chain_split x2 x3 _ x16 _ arg16 _ _ _ _ _ _ _ _ rfl rfl ?_ ?_ ?_ ?_
    · exact word_at arg2 x2 (Fin.ofNat 32 _) _ (by rfl) _ _
    · exact word_at arg3 x3 (Fin.ofNat 32 _) _ (by rfl) _ _
    · exact patch_at arg17 _ _ rfl (Fin.ofNat 32 _) _ (by rfl) _
  iterate 8
    refine rmw_chain x2 x3 _ x16 _ arg16 _ _ _ _ _ _ _ rfl ?_ ?_ ?_ ?_
    · exact word_at arg2 x2 (Fin.ofNat 32 _) _ (by rfl) _ _
    · exact word_at arg3 x3 (Fin.ofNat 32 _) _ (by rfl) _ _
    · exact patch_at arg17 _ _ rfl (Fin.ofNat 32 _) _ (by rfl) _
  iterate 1
    refine rmw_chain_split x2 x3 _ x16 _ arg16 _ _ _ _ _ _ _ _ rfl rfl ?_ ?_ ?_ ?_
    · exact word_at arg2 x2 (Fin.ofNat 32 _) _ (by rfl) _ _
    · exact word_at arg3 x3 (Fin.ofNat 32 _) _ (by rfl) _ _
    · exact patch_at arg17 _ _ rfl (Fin.ofNat 32 _) _ (by rfl) _
  iterate 6
    refine rmw_chain x2 x3 _ x16 _ arg16 _ _ _ _ _ _ _ rfl ?_ ?_ ?_ ?_
    · exact word_at arg2 x2 (Fin.ofNat 32 _) _ (by rfl) _ _
    · exact word_at arg3 x3 (Fin.ofNat 32 _) _ (by rfl) _ _
    · exact patch_at arg17 _ _ rfl (Fin.ofNat 32 _) _ (by rfl) _
  refine rmw_chain x2 x3 _ x16 0 arg16 _ [] _ _ _ _ _ ?_ ?_ ?_ ?_ ?_
  · rw [View.writes_nil]; unfold runNext.sl.v668; rfl
  · exact word_at arg2 x2 (Fin.ofNat 32 _) _ (by rfl) _ _
  · exact word_at arg3 x3 (Fin.ofNat 32 _) _ (by rfl) _ _
  · exact patch_at arg17 _ _ rfl (Fin.ofNat 32 _) _ (by rfl) _
  · rw [View.writes_nil]; exact View.read_rep _ _

set_option maxHeartbeats 800000 in
/-- Both runs store the same patches. -/
theorem patches_first (arg17 : Memref sig .tc .vmem S2x32x9x2x8x128 .f32) (arg4 arg5 arg6 arg7 arg8 arg9 arg10 arg11 arg12 arg13 arg14 arg15 : Memref sig .tc .vmem S32x1 .f32) (x4 x5 x6 x7 x8 x9 x10 x11 x12 x13 x14 x15 : Vec F S32x1 .f32) :
    patches arg17 arg4 arg5 arg6 arg7 arg8 arg9 arg10 arg11 arg12 arg13 arg14 arg15 x4 x5 x6 x7 x8 x9 x10 x11 x12 x13 x14 x15 = arg17.view.read (Elt F) (arg17.view.writes (Elt F) arg17.view.junk (runFirst.sl.H17_18 arg4 arg5 arg6 arg7 arg8 arg9 arg10 arg11 arg12 arg13 arg14 arg15 x4 x5 x6 x7 x8 x9 x10 x11 x12 x13 x14 x15)) := rfl

set_option maxHeartbeats 800000 in
/-- Step 0 adds its 32 patches to the volume it copied in. -/
theorem runFirst_eq (c : Dev nD) (i : grid0.Coords) (hi : Scalar.cmpi .ne (Scalar.extui (Scalar.cmpi .eq (BitVec.ofNat 32 (i 0).val) 0#32) : BitVec 32) 0#32 = 1#1)
    (arg1 : Memref sig .tc .hbm S2x128x16x8x128 .f32) (harg1 : arg1.IsWhole)
    (arg2 : Memref sig .tc .smem S1x1x32 .i32) (harg2 : arg2.IsWhole) (arg3 : Memref sig .tc .smem S1x1x32 .i32) (harg3 : arg3.IsWhole)
    (arg4 : Memref sig .tc .vmem S32x1 .f32) (harg4 : arg4.IsWhole) (arg5 : Memref sig .tc .vmem S32x1 .f32) (harg5 : arg5.IsWhole)
    (arg6 : Memref sig .tc .vmem S32x1 .f32) (harg6 : arg6.IsWhole) (arg7 : Memref sig .tc .vmem S32x1 .f32) (harg7 : arg7.IsWhole)
    (arg8 : Memref sig .tc .vmem S32x1 .f32) (harg8 : arg8.IsWhole) (arg9 : Memref sig .tc .vmem S32x1 .f32) (harg9 : arg9.IsWhole)
    (arg10 : Memref sig .tc .vmem S32x1 .f32) (harg10 : arg10.IsWhole) (arg11 : Memref sig .tc .vmem S32x1 .f32) (harg11 : arg11.IsWhole)
    (arg12 : Memref sig .tc .vmem S32x1 .f32) (harg12 : arg12.IsWhole) (arg13 : Memref sig .tc .vmem S32x1 .f32) (harg13 : arg13.IsWhole)
    (arg14 : Memref sig .tc .vmem S32x1 .f32) (harg14 : arg14.IsWhole) (arg15 : Memref sig .tc .vmem S32x1 .f32) (harg15 : arg15.IsWhole)
    (arg16 : Memref sig .tc .vmem S2x128x16x8x128 .f32) (harg16 : arg16.IsWhole) (arg17 : Memref sig .tc .vmem S2x32x9x2x8x128 .f32) (harg17 : arg17.IsWhole)
    (x1 : Vec F S2x128x16x8x128 .f32) (x2 x3 : Vec F S1x1x32 .i32) (x4 x5 x6 x7 x8 x9 x10 x11 x12 x13 x14 x15 : Vec F S32x1 .f32)
    (x16 : Vec F S2x128x16x8x128 .f32)
    (h2 : ∀ j, (x2 j : BitVec 32).toNat ≤ 119) (h3 : ∀ j, (x3 j : BitVec 32).toNat ≤ 14) :
    (runFirst c i hi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 x16 h2 h3).1 = chain x2 x3 (patches arg17 arg4 arg5 arg6 arg7 arg8 arg9 arg10 arg11 arg12 arg13 arg14 arg15 x4 x5 x6 x7 x8 x9 x10 x11 x12 x13 x14 x15) x1 32 := by
  show arg16.view.read (Elt F) (arg16.view.writes (Elt F) arg16.view.junk _) = _
  iterate 4
    refine rmw_chain x2 x3 _ x1 _ arg16 _ _ _ _ _ _ _ rfl ?_ ?_ ?_ ?_
    · exact word_at arg2 x2 (Fin.ofNat 32 _) _ (by rfl) _ _
    · exact word_at arg3 x3 (Fin.ofNat 32 _) _ (by rfl) _ _
    · exact patch_at arg17 _ _ (patches_first _ _ _ _ _ _ _ _ _ _ _ _ _ _ _ _ _ _ _ _ _ _ _ _ _) (Fin.ofNat 32 _) _ (by rfl) _
  iterate 1
    refine rmw_chain_split x2 x3 _ x1 _ arg16 _ _ _ _ _ _ _ _ rfl rfl ?_ ?_ ?_ ?_
    · exact word_at arg2 x2 (Fin.ofNat 32 _) _ (by rfl) _ _
    · exact word_at arg3 x3 (Fin.ofNat 32 _) _ (by rfl) _ _
    · exact patch_at arg17 _ _ (patches_first _ _ _ _ _ _ _ _ _ _ _ _ _ _ _ _ _ _ _ _ _ _ _ _ _) (Fin.ofNat 32 _) _ (by rfl) _
  iterate 8
    refine rmw_chain x2 x3 _ x1 _ arg16 _ _ _ _ _ _ _ rfl ?_ ?_ ?_ ?_
    · exact word_at arg2 x2 (Fin.ofNat 32 _) _ (by rfl) _ _
    · exact word_at arg3 x3 (Fin.ofNat 32 _) _ (by rfl) _ _
    · exact patch_at arg17 _ _ (patches_first _ _ _ _ _ _ _ _ _ _ _ _ _ _ _ _ _ _ _ _ _ _ _ _ _) (Fin.ofNat 32 _) _ (by rfl) _
  iterate 1
    refine rmw_chain_split x2 x3 _ x1 _ arg16 _ _ _ _ _ _ _ _ rfl rfl ?_ ?_ ?_ ?_
    · exact word_at arg2 x2 (Fin.ofNat 32 _) _ (by rfl) _ _
    · exact word_at arg3 x3 (Fin.ofNat 32 _) _ (by rfl) _ _
    · exact patch_at arg17 _ _ (patches_first _ _ _ _ _ _ _ _ _ _ _ _ _ _ _ _ _ _ _ _ _ _ _ _ _) (Fin.ofNat 32 _) _ (by rfl) _
  iterate 1
    refine rmw_chain x2 x3 _ x1 _ arg16 _ _ _ _ _ _ _ rfl ?_ ?_ ?_ ?_
    · exact word_at arg2 x2 (Fin.ofNat 32 _) _ (by rfl) _ _
    · exact word_at arg3 x3 (Fin.ofNat 32 _) _ (by rfl) _ _
    · exact patch_at arg17 _ _ (patches_first _ _ _ _ _ _ _ _ _ _ _ _ _ _ _ _ _ _ _ _ _ _ _ _ _) (Fin.ofNat 32 _) _ (by rfl) _
  iterate 1
    refine rmw_chain_split x2 x3 _ x1 _ arg16 _ _ _ _ _ _ _ _ rfl rfl ?_ ?_ ?_ ?_
    · exact word_at arg2 x2 (Fin.ofNat 32 _) _ (by rfl) _ _
    · exact word_at arg3 x3 (Fin.ofNat 32 _) _ (by rfl) _ _
    · exact patch_at arg17 _ _ (patches_first _ _ _ _ _ _ _ _ _ _ _ _ _ _ _ _ _ _ _ _ _ _ _ _ _) (Fin.ofNat 32 _) _ (by rfl) _
  iterate 8
    refine rmw_chain x2 x3 _ x1 _ arg16 _ _ _ _ _ _ _ rfl ?_ ?_ ?_ ?_
    · exact word_at arg2 x2 (Fin.ofNat 32 _) _ (by rfl) _ _
    · exact word_at arg3 x3 (Fin.ofNat 32 _) _ (by rfl) _ _
    · exact patch_at arg17 _ _ (patches_first _ _ _ _ _ _ _ _ _ _ _ _ _ _ _ _ _ _ _ _ _ _ _ _ _) (Fin.ofNat 32 _) _ (by rfl) _
  iterate 1
    refine rmw_chain_split x2 x3 _ x1 _ arg16 _ _ _ _ _ _ _ _ rfl rfl ?_ ?_ ?_ ?_
    · exact word_at arg2 x2 (Fin.ofNat 32 _) _ (by rfl) _ _
    · exact word_at arg3 x3 (Fin.ofNat 32 _) _ (by rfl) _ _
    · exact patch_at arg17 _ _ (patches_first _ _ _ _ _ _ _ _ _ _ _ _ _ _ _ _ _ _ _ _ _ _ _ _ _) (Fin.ofNat 32 _) _ (by rfl) _
  iterate 7
    refine rmw_chain x2 x3 _ x1 _ arg16 _ _ _ _ _ _ _ rfl ?_ ?_ ?_ ?_
    · exact word_at arg2 x2 (Fin.ofNat 32 _) _ (by rfl) _ _
    · exact word_at arg3 x3 (Fin.ofNat 32 _) _ (by rfl) _ _
    · exact patch_at arg17 _ _ (patches_first _ _ _ _ _ _ _ _ _ _ _ _ _ _ _ _ _ _ _ _ _ _ _ _ _) (Fin.ofNat 32 _) _ (by rfl) _
  exact (View.read_writes_whole _ _ _).trans (View.read_rep _ _)

end Cert.KernelIdeal.Hand

end
-- ==== Proof.KernelIdealHost.lean ====
module

public import proofs.«01_k».proof.Proof.Gen.KernelIdeal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.ValueKit

@[expose] public section

set_option maxRecDepth 16384

/-! # What the host lines before the region leave -/

noncomputable section

namespace Cert.KernelIdeal.Hand

open Cert.KernelIdeal Cert.KernelIdeal.Gen
open Idealize.ShloMosaic Idealize.ShloMosaic.TcCoe Idealize.ShloMosaic.StableHlo

variable {F : FTy → Type} [FloatOps F] [Named F]
variable (m : (ℓ : Loc nD τ sig) → Buf (Elt F) ℓ)

/-- The window start along an axis whose voxel coordinates are `cv`: `clip(floor(cv) - 4, 0, 119)`, as words. -/
def startOf (cv : FVec F S16384 .f32) : IVec S16384 32 :=
  minsi (broadcastInDim S16384 ![] bcast_S_S16384 (constantI S_ 32 119#32))
    (maxsi (broadcastInDim S16384 ![] bcast_S_S16384 (constantI S_ 32 0#32))
      (subi (fptosi 32 (Host.floor cv)) (broadcastInDim S16384 ![] bcast_S_S16384 (constantI S_ 32 4#32))))

set_option maxHeartbeats 2000000 in
/-- The first planes of the patches, as the region's first window is handed them. -/
theorem V_sz (c : Dev nD) : V m c main_call0_v13 = shapeCast S512x1x32 (startOf (mulf (shapeCast S16384 (extractStridedSlice S16384x1 ![0, 0] (m ((c : Thread nD τ).loc main_arg0)) slices_S16384x3_S16384x1_0_0) shapeCasts_S16384x1_S16384) (broadcastInDim S16384 ![] bcast_S_S16384 (constant S_ .f32 0x42FE0000#32)))) shapeCasts_S16384_S512x1x32 := by
  unfold V V0
  simp only [hostOps0, List.flatten_cons, List.flatten_nil, List.append_nil]
  after_results_simp
  rfl

set_option maxHeartbeats 2000000 in
/-- The volume the region starts from: all zeros. -/
theorem V_v33 (c : Dev nD) : V m c main_call0_v33 = broadcastInDim S2x128x16x8x128 ![] bcast_S_S2x128x16x8x128 (constant S_ .f32 0x00000000#32) := by
  unfold V V0
  simp only [hostOps0, List.flatten_cons, List.flatten_nil, List.append_nil]
  after_results_simp
  rfl

/-- The tile of 8 rows a start lies in, `st // 8`, as words (the floor division as the host spells it). -/
def rowOf (st : IVec S16384 32) : IVec S16384 32 :=
  select (andi (cmpi .ne (signi st) (broadcastInDim S16384 ![] bcast_S_S16384 (signi (constantI S_ 32 8#32))))
      (cmpi .ne (Host.remsi st (broadcastInDim S16384 ![] bcast_S_S16384 (constantI S_ 32 8#32))) (broadcastInDim S16384 ![] bcast_S_S16384 (constantI S_ 32 0#32))))
    (subi (Host.divsi st (broadcastInDim S16384 ![] bcast_S_S16384 (constantI S_ 32 8#32))) (broadcastInDim S16384 ![] bcast_S_S16384 (constantI S_ 32 1#32)))
    (Host.divsi st (broadcastInDim S16384 ![] bcast_S_S16384 (constantI S_ 32 8#32)))

set_option maxHeartbeats 2000000 in
/-- The tiles of the point's second coordinate, as the region's second window is handed them. -/
theorem V_sy (c : Dev nD) : V m c main_call0_v20 = shapeCast S512x1x32 (rowOf (startOf (mulf (shapeCast S16384 (extractStridedSlice S16384x1 ![0, 1] (m ((c : Thread nD τ).loc main_arg0)) slices_S16384x3_S16384x1_0_1) shapeCasts_S16384x1_S16384) (broadcastInDim S16384 ![] bcast_S_S16384 (constant S_ .f32 0x42FE0000#32))))) shapeCasts_S16384_S512x1x32 := by
  unfold V V0
  simp only [hostOps0, List.flatten_cons, List.flatten_nil, List.append_nil]
  after_results_simp
  rfl

set_option maxHeartbeats 2000000 in
/-- Column 0 of argument 0, as a window's array. -/
theorem V_c21 (c : Dev nD) : V m c main_call0_v21 = extractStridedSlice S16384x1 ![0, 0] (m ((c : Thread nD τ).loc main_arg0)) slices_S16384x3_S16384x1_0_0 := by
  unfold V V0
  simp only [hostOps0, List.flatten_cons, List.flatten_nil, List.append_nil]
  after_results_simp
  rfl

set_option maxHeartbeats 2000000 in
/-- Column 1 of argument 0, as a window's array. -/
theorem V_c22 (c : Dev nD) : V m c main_call0_v22 = extractStridedSlice S16384x1 ![0, 1] (m ((c : Thread nD τ).loc main_arg0)) slices_S16384x3_S16384x1_0_1 := by
  unfold V V0
  simp only [hostOps0, List.flatten_cons, List.flatten_nil, List.append_nil]
  after_results_simp
  rfl

set_option maxHeartbeats 2000000 in
/-- Column 2 of argument 0, as a window's array. -/
theorem V_c23 (c : Dev nD) : V m c main_call0_v23 = extractStridedSlice S16384x1 ![0, 2] (m ((c : Thread nD τ).loc main_arg0)) slices_S16384x3_S16384x1_0_2 := by
  unfold V V0
  simp only [hostOps0, List.flatten_cons, List.flatten_nil, List.append_nil]
  after_results_simp
  rfl

set_option maxHeartbeats 2000000 in
/-- Column 0 of argument 1, as a window's array. -/
theorem V_c24 (c : Dev nD) : V m c main_call0_v24 = extractStridedSlice S16384x1 ![0, 0] (m ((c : Thread nD τ).loc main_arg1)) slices_S16384x3_S16384x1_0_0 := by
  unfold V V0
  simp only [hostOps0, List.flatten_cons, List.flatten_nil, List.append_nil]
  after_results_simp
  rfl

set_option maxHeartbeats 2000000 in
/-- Column 1 of argument 1, as a window's array. -/
theorem V_c25 (c : Dev nD) : V m c main_call0_v25 = extractStridedSlice S16384x1 ![0, 1] (m ((c : Thread nD τ).loc main_arg1)) slices_S16384x3_S16384x1_0_1 := by
  unfold V V0
  simp only [hostOps0, List.flatten_cons, List.flatten_nil, List.append_nil]
  after_results_simp
  rfl

set_option maxHeartbeats 2000000 in
/-- Column 2 of argument 1, as a window's array. -/
theorem V_c26 (c : Dev nD) : V m c main_call0_v26 = extractStridedSlice S16384x1 ![0, 2] (m ((c : Thread nD τ).loc main_arg1)) slices_S16384x3_S16384x1_0_2 := by
  unfold V V0
  simp only [hostOps0, List.flatten_cons, List.flatten_nil, List.append_nil]
  after_results_simp
  rfl

set_option maxHeartbeats 2000000 in
/-- Column 0 of argument 2, as a window's array. -/
theorem V_c27 (c : Dev nD) : V m c main_call0_v27 = extractStridedSlice S16384x1 ![0, 0] (m ((c : Thread nD τ).loc main_arg2)) slices_S16384x4_S16384x1_0_0 := by
  unfold V V0
  simp only [hostOps0, List.flatten_cons, List.flatten_nil, List.append_nil]
  after_results_simp
  rfl

set_option maxHeartbeats 2000000 in
/-- Column 1 of argument 2, as a window's array. -/
theorem V_c28 (c : Dev nD) : V m c main_call0_v28 = extractStridedSlice S16384x1 ![0, 1] (m ((c : Thread nD τ).loc main_arg2)) slices_S16384x4_S16384x1_0_1 := by
  unfold V V0
  simp only [hostOps0, List.flatten_cons, List.flatten_nil, List.append_nil]
  after_results_simp
  rfl

set_option maxHeartbeats 2000000 in
/-- Column 2 of argument 2, as a window's array. -/
theorem V_c29 (c : Dev nD) : V m c main_call0_v29 = extractStridedSlice S16384x1 ![0, 2] (m ((c : Thread nD τ).loc main_arg2)) slices_S16384x4_S16384x1_0_2 := by
  unfold V V0
  simp only [hostOps0, List.flatten_cons, List.flatten_nil, List.append_nil]
  after_results_simp
  rfl

set_option maxHeartbeats 2000000 in
/-- Column 3 of argument 2, as a window's array. -/
theorem V_c30 (c : Dev nD) : V m c main_call0_v30 = extractStridedSlice S16384x1 ![0, 3] (m ((c : Thread nD τ).loc main_arg2)) slices_S16384x4_S16384x1_0_3 := by
  unfold V V0
  simp only [hostOps0, List.flatten_cons, List.flatten_nil, List.append_nil]
  after_results_simp
  rfl

set_option maxHeartbeats 2000000 in
/-- Column 0 of argument 3, as a window's array. -/
theorem V_c31 (c : Dev nD) : V m c main_call0_v31 = extractStridedSlice S16384x1 ![0, 0] (m ((c : Thread nD τ).loc main_arg3)) slices_S16384x2_S16384x1_0_0 := by
  unfold V V0
  simp only [hostOps0, List.flatten_cons, List.flatten_nil, List.append_nil]
  after_results_simp
  rfl

set_option maxHeartbeats 2000000 in
/-- Column 1 of argument 3, as a window's array. -/
theorem V_c32 (c : Dev nD) : V m c main_call0_v32 = extractStridedSlice S16384x1 ![0, 1] (m ((c : Thread nD τ).loc main_arg3)) slices_S16384x2_S16384x1_0_1 := by
  unfold V V0
  simp only [hostOps0, List.flatten_cons, List.flatten_nil, List.append_nil]
  after_results_simp
  rfl

end Cert.KernelIdeal.Hand

end
-- ==== Proof.KernelIdealBlocks.lean ====
module

public import proofs.«01_k».proof.Proof.KernelIdealHost

@[expose] public section

set_option maxRecDepth 16384

/-! # The region's input blocks, element by element -/

noncomputable section

namespace Cert.KernelIdeal.Hand

open Cert.KernelIdeal Cert.KernelIdeal.Gen
open Idealize.ShloMosaic Idealize.ShloMosaic.TcCoe Idealize.ShloMosaic.StableHlo Idealize.ShloMosaic.Tactic

variable {F : FTy → Type} [FloatOps F] [Named F]
variable (m : (ℓ : Loc nD τ sig) → Buf (Elt F) ℓ)

/-- A word clipped to a window start's range, 0 to 119. -/
def wStart (x : BitVec 32) : BitVec 32 := IntOp.minsi 119#32 (IntOp.maxsi 0#32 (x - 4#32))

/-- A start is at most 119. -/
theorem wStart_le (x : BitVec 32) : (wStart x).toNat ≤ 119 := by
  unfold wStart
  simp only [IntOp.maxsi, IntOp.minsi, BitVec.slt_eq_decide, decide_eq_true_eq]
  generalize x - 4#32 = y
  split_ifs <;> simp_all [BitVec.toInt_eq_toNat_cond] <;> omega

/-- The start of a window, at one point: the start of the word of its floored coordinate. -/
theorem sz_at (cv : FVec F S16384 .f32) (j : S16384.Idx) : startOf cv j = wStart (FloatOps.fptosi (F := F) 32 (FloatOps.hostUnary .floor (cv j))) := by
  unfold startOf wStart
  pointwise
  rfl

/-- Floor division by 8 of a word, as the host spells it. -/
def wRow (w : BitVec 32) : BitVec 32 :=
  Scalar.select
      (IntOp.andi
        (IntOp.cmpi CmpIPredicate.ne (if w = 0 then (0 : BitVec 32) else if w.msb = true then -1 else 1)
          (if 8#32 = 0 then (0 : BitVec 32) else if (8#32).msb = true then -1 else 1))
        (IntOp.cmpi CmpIPredicate.ne (IntOp.remsi ArithUnit.host w 8#32) 0#32))
      (IntOp.subi (IntOp.divsi ArithUnit.host w 8#32) 1#32) (IntOp.divsi ArithUnit.host w 8#32)

/-- For the starts that occur, the floor division as the host spells it is the division of numbers. -/
theorem wRow_fin : ∀ k : Fin 120, wRow (BitVec.ofNat 32 k.val) = BitVec.ofNat 32 (k.val / 8) := by
  decide +kernel

/-- On a window start it is the quotient of the numbers. -/
theorem wRow_eq (w : BitVec 32) (h : w.toNat ≤ 119) : wRow w = BitVec.ofNat 32 (w.toNat / 8) := by
  have := wRow_fin ⟨w.toNat, by omega⟩
  simpa using this

/-- The row of a window, at one point. -/
theorem sy_at (st : IVec S16384 32) (j : S16384.Idx) : rowOf st j = wRow (st j) := by
  unfold rowOf wRow
  pointwise

/-- The point number of row `b` of grid point `t`'s blocks. -/
def pt (t : Fin cfg0.N) (b : Fin 32) : Fin 16384 :=
  ⟨32 * t.val + b.val, by have h : t.val < 512 := lt_of_lt_of_eq t.isLt Gen.N_0; omega⟩

/-- Window 0's blocks start at their grid point. -/
theorem idx_0 : ∀ t : Fin cfg0.N, win0_0.index t = ![t.val, 0, 0] := (by decide +kernel : ∀ t : Fin grid0.N, _)
/-- Window 1's blocks start at their grid point. -/
theorem idx_1 : ∀ t : Fin cfg0.N, win0_1.index t = ![t.val, 0, 0] := (by decide +kernel : ∀ t : Fin grid0.N, _)

/-- Window 2's blocks start at their grid point. -/
theorem idx_2 : ∀ t : Fin cfg0.N, win0_2.index t = ![t.val, 0] := (by decide +kernel : ∀ t : Fin grid0.N, _)
/-- Window 3's blocks start at their grid point. -/
theorem idx_3 : ∀ t : Fin cfg0.N, win0_3.index t = ![t.val, 0] := (by decide +kernel : ∀ t : Fin grid0.N, _)
/-- Window 4's blocks start at their grid point. -/
theorem idx_4 : ∀ t : Fin cfg0.N, win0_4.index t = ![t.val, 0] := (by decide +kernel : ∀ t : Fin grid0.N, _)
/-- Window 5's blocks start at their grid point. -/
theorem idx_5 : ∀ t : Fin cfg0.N, win0_5.index t = ![t.val, 0] := (by decide +kernel : ∀ t : Fin grid0.N, _)
/-- Window 6's blocks start at their grid point. -/
theorem idx_6 : ∀ t : Fin cfg0.N, win0_6.index t = ![t.val, 0] := (by decide +kernel : ∀ t : Fin grid0.N, _)
/-- Window 7's blocks start at their grid point. -/
theorem idx_7 : ∀ t : Fin cfg0.N, win0_7.index t = ![t.val, 0] := (by decide +kernel : ∀ t : Fin grid0.N, _)
/-- Window 8's blocks start at their grid point. -/
theorem idx_8 : ∀ t : Fin cfg0.N, win0_8.index t = ![t.val, 0] := (by decide +kernel : ∀ t : Fin grid0.N, _)
/-- Window 9's blocks start at their grid point. -/
theorem idx_9 : ∀ t : Fin cfg0.N, win0_9.index t = ![t.val, 0] := (by decide +kernel : ∀ t : Fin grid0.N, _)
/-- Window 10's blocks start at their grid point. -/
theorem idx_10 : ∀ t : Fin cfg0.N, win0_10.index t = ![t.val, 0] := (by decide +kernel : ∀ t : Fin grid0.N, _)
/-- Window 11's blocks start at their grid point. -/
theorem idx_11 : ∀ t : Fin cfg0.N, win0_11.index t = ![t.val, 0] := (by decide +kernel : ∀ t : Fin grid0.N, _)
/-- Window 12's blocks start at their grid point. -/
theorem idx_12 : ∀ t : Fin cfg0.N, win0_12.index t = ![t.val, 0] := (by decide +kernel : ∀ t : Fin grid0.N, _)
/-- Window 13's blocks start at their grid point. -/
theorem idx_13 : ∀ t : Fin cfg0.N, win0_13.index t = ![t.val, 0] := (by decide +kernel : ∀ t : Fin grid0.N, _)
/-- The voxel coordinate of point `n` along axis `k`, rounded down. -/
def floorAt (c : Dev nD) (n : Fin 16384) (k : Fin 3) : F .f32 :=
  FloatOps.hostUnary .floor (FloatOps.mulf (m ((c : Thread nD τ).loc main_arg0) (ix2 n k)) (FloatOps.ofBits .f32 0x42FE0000#32))

/-- Window 0 at row `b`: the first plane of the patch of the row's point. -/
theorem blk_sz (c : Dev nD) (t : Fin cfg0.N) (j : S1x1x32.Idx) : (iblk m c 0 t j : BitVec 32) = wStart (FloatOps.fptosi 32 (floorAt m c (pt t (j 2)) 0)) := by
  idx_vars j
  show View.read (Elt F) ((cfg0.win 0).blk t).view (V m c main_call0_v13) _ = _
  rw [V_sz]
  blk_simp
  pointwise
  rw [sz_at]
  pointwise
  unfold floorAt
  congr 4
  blk_ext [idx_0 t, pt]

/-- Window 1 at row `b`: the first tile of rows of the patch of the row's point. -/
theorem blk_sy (c : Dev nD) (t : Fin cfg0.N) (j : S1x1x32.Idx) : (iblk m c 1 t j : BitVec 32) = wRow (wStart (FloatOps.fptosi 32 (floorAt m c (pt t (j 2)) 1))) := by
  idx_vars j
  show View.read (Elt F) ((cfg0.win 1).blk t).view (V m c main_call0_v20) _ = _
  rw [V_sy]
  blk_simp
  pointwise
  rw [sy_at, sz_at]
  pointwise
  unfold floorAt
  congr 5
  blk_ext [idx_1 t, pt]

/-- A patch's first plane leaves room for nine planes. -/
theorem blk_sz_le (c : Dev nD) (t : Fin cfg0.N) (j : S1x1x32.Idx) : (iblk m c 0 t j : BitVec 32).toNat ≤ 119 := by
  rw [blk_sz]; exact wStart_le _

/-- A patch's first tile of rows leaves room for two. -/
theorem blk_sy_le (c : Dev nD) (t : Fin cfg0.N) (j : S1x1x32.Idx) : (iblk m c 1 t j : BitVec 32).toNat ≤ 14 := by
  rw [blk_sy, wRow_eq _ (wStart_le _)]
  have := wStart_le (FloatOps.fptosi 32 (floorAt m c (pt t (j 2)) 1))
  simp only [BitVec.toNat_ofNat]
  omega

/-- Window 2 at row `b`: argument 0 of the row's point, column 0. -/
theorem blk_2 (c : Dev nD) (t : Fin cfg0.N) (b : Fin 32) : iblk m c 2 t (ix2 b 0) = m ((c : Thread nD τ).loc main_arg0) (ix2 (pt t b) 0) := by
  show View.read (Elt F) ((cfg0.win 2).blk t).view (V m c main_call0_v21) _ = _
  rw [V_c21]
  blk_simp
  pointwise
  blk_ext [idx_2 t, pt]

/-- Window 3 at row `b`: argument 0 of the row's point, column 1. -/
theorem blk_3 (c : Dev nD) (t : Fin cfg0.N) (b : Fin 32) : iblk m c 3 t (ix2 b 0) = m ((c : Thread nD τ).loc main_arg0) (ix2 (pt t b) 1) := by
  show View.read (Elt F) ((cfg0.win 3).blk t).view (V m c main_call0_v22) _ = _
  rw [V_c22]
  blk_simp
  pointwise
  blk_ext [idx_3 t, pt]

/-- Window 4 at row `b`: argument 0 of the row's point, column 2. -/
theorem blk_4 (c : Dev nD) (t : Fin cfg0.N) (b : Fin 32) : iblk m c 4 t (ix2 b 0) = m ((c : Thread nD τ).loc main_arg0) (ix2 (pt t b) 2) := by
  show View.read (Elt F) ((cfg0.win 4).blk t).view (V m c main_call0_v23) _ = _
  rw [V_c23]
  blk_simp
  pointwise
  blk_ext [idx_4 t, pt]

/-- Window 5 at row `b`: argument 1 of the row's point, column 0. -/
theorem blk_5 (c : Dev nD) (t : Fin cfg0.N) (b : Fin 32) : iblk m c 5 t (ix2 b 0) = m ((c : Thread nD τ).loc main_arg1) (ix2 (pt t b) 0) := by
  show View.read (Elt F) ((cfg0.win 5).blk t).view (V m c main_call0_v24) _ = _
  rw [V_c24]
  blk_simp
  pointwise
  blk_ext [idx_5 t, pt]

/-- Window 6 at row `b`: argument 1 of the row's point, column 1. -/
theorem blk_6 (c : Dev nD) (t : Fin cfg0.N) (b : Fin 32) : iblk m c 6 t (ix2 b 0) = m ((c : Thread nD τ).loc main_arg1) (ix2 (pt t b) 1) := by
  show View.read (Elt F) ((cfg0.win 6).blk t).view (V m c main_call0_v25) _ = _
  rw [V_c25]
  blk_simp
  pointwise
  blk_ext [idx_6 t, pt]

/-- Window 7 at row `b`: argument 1 of the row's point, column 2. -/
theorem blk_7 (c : Dev nD) (t : Fin cfg0.N) (b : Fin 32) : iblk m c 7 t (ix2 b 0) = m ((c : Thread nD τ).loc main_arg1) (ix2 (pt t b) 2) := by
  show View.read (Elt F) ((cfg0.win 7).blk t).view (V m c main_call0_v26) _ = _
  rw [V_c26]
  blk_simp
  pointwise
  blk_ext [idx_7 t, pt]

/-- Window 8 at row `b`: argument 2 of the row's point, column 0. -/
theorem blk_8 (c : Dev nD) (t : Fin cfg0.N) (b : Fin 32) : iblk m c 8 t (ix2 b 0) = m ((c : Thread nD τ).loc main_arg2) (ix2 (pt t b) 0) := by
  show View.read (Elt F) ((cfg0.win 8).blk t).view (V m c main_call0_v27) _ = _
  rw [V_c27]
  blk_simp
  pointwise
  blk_ext [idx_8 t, pt]

/-- Window 9 at row `b`: argument 2 of the row's point, column 1. -/
theorem blk_9 (c : Dev nD) (t : Fin cfg0.N) (b : Fin 32) : iblk m c 9 t (ix2 b 0) = m ((c : Thread nD τ).loc main_arg2) (ix2 (pt t b) 1) := by
  show View.read (Elt F) ((cfg0.win 9).blk t).view (V m c main_call0_v28) _ = _
  rw [V_c28]
  blk_simp
  pointwise
  blk_ext [idx_9 t, pt]

/-- Window 10 at row `b`: argument 2 of the row's point, column 2. -/
theorem blk_10 (c : Dev nD) (t : Fin cfg0.N) (b : Fin 32) : iblk m c 10 t (ix2 b 0) = m ((c : Thread nD τ).loc main_arg2) (ix2 (pt t b) 2) := by
  show View.read (Elt F) ((cfg0.win 10).blk t).view (V m c main_call0_v29) _ = _
  rw [V_c29]
  blk_simp
  pointwise
  blk_ext [idx_10 t, pt]

/-- Window 11 at row `b`: argument 2 of the row's point, column 3. -/
theorem blk_11 (c : Dev nD) (t : Fin cfg0.N) (b : Fin 32) : iblk m c 11 t (ix2 b 0) = m ((c : Thread nD τ).loc main_arg2) (ix2 (pt t b) 3) := by
  show View.read (Elt F) ((cfg0.win 11).blk t).view (V m c main_call0_v30) _ = _
  rw [V_c30]
  blk_simp
  pointwise
  blk_ext [idx_11 t, pt]

/-- Window 12 at row `b`: argument 3 of the row's point, column 0. -/
theorem blk_12 (c : Dev nD) (t : Fin cfg0.N) (b : Fin 32) : iblk m c 12 t (ix2 b 0) = m ((c : Thread nD τ).loc main_arg3) (ix2 (pt t b) 0) := by
  show View.read (Elt F) ((cfg0.win 12).blk t).view (V m c main_call0_v31) _ = _
  rw [V_c31]
  blk_simp
  pointwise
  blk_ext [idx_12 t, pt]

/-- Window 13 at row `b`: argument 3 of the row's point, column 1. -/
theorem blk_13 (c : Dev nD) (t : Fin cfg0.N) (b : Fin 32) : iblk m c 13 t (ix2 b 0) = m ((c : Thread nD τ).loc main_arg3) (ix2 (pt t b) 1) := by
  show View.read (Elt F) ((cfg0.win 13).blk t).view (V m c main_call0_v32) _ = _
  rw [V_c32]
  blk_simp
  pointwise
  blk_ext [idx_13 t, pt]

end Cert.KernelIdeal.Hand

end
-- ==== Proof.KernelIdealFrame.lean ====
module

public import proofs.«01_k».proof.Proof.KernelIdealChain
public import proofs.«01_k».proof.Proof.KernelIdealBlocks

@[expose] public section

set_option maxRecDepth 16384

/-! # The region's run and the program's frame

The result's buffer is one window held over all 512 grid points, written back once at the end. After point `t` it holds the
zero volume with the patches of points `0 … t` added. The zero volume itself lies in an array no window stages, which
step 0 copies in by a transfer of its own, on a semaphore of the region's. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## @main around the region -/

set_option maxHeartbeats 800000 in
/-- The host lines before the region, the region, the host lines after it. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The zero volume's array, which the body reads itself. -/
abbrev H0 : Finset (Ref sig .tc) := {main_call0_v33}

/-- The transfer's semaphore. -/
abbrev osem0 : Fin 1 → SemLoc sig := fun j => (![SemLoc.dma 29] : Fin 1 → SemLoc sig) j

/-- The semaphore of the copy that point 0 makes is the region's own. -/
theorem ownSemFacts0 : Pipeline.OwnSemFacts spec0 osem0 := by decide

/-- The buffer that point 0 copies from belongs to no window. -/
theorem H0_sub : H0 ⊆ Pipeline.restRefs sig spec0 := by decide

/-- The lines after the region touch the windows' arrays and the buffers the region leaves alone. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  simp only [hostOps1, List.mem_cons, List.mem_nil_iff, or_false] at hop
  rcases hop with rfl
  intro b hb
  simp only [H0, Finset.mem_singleton] at hb
  subst hb
  simp only [StableHlo.reshape_bufs, Finset.mem_insert, Finset.mem_singleton, not_or]
  exact ⟨StableHlo.devRef_ne_of_ne (by decide), StableHlo.devRef_ne_of_ne (by decide)⟩

/-! ## The result's buffer, point by point -/

/-- The patches point `t` computes from its blocks. -/
def patchesAt (c : Dev nD) (t : Fin cfg0.N) : Vec F S2x32x9x2x8x128 .f32 :=
  patches (Memref.whole cc0_scratch0) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The result's buffer after the first `n` points: the zero volume with their patches added. -/
def acc (c : Dev nD) : ℕ → Vec F S2x128x16x8x128 .f32
  | 0 => V m c main_call0_v33
  | n + 1 => if h : n < cfg0.N then chain (iblk m c 0 ⟨n, h⟩) (iblk m c 1 ⟨n, h⟩) (patchesAt m c ⟨n, h⟩) (acc c n) 32 else acc c n

/-- One more point adds its patches. -/
theorem acc_succ (c : Dev nD) (t : Fin cfg0.N) :
    acc m c (t.val + 1) = chain (iblk m c 0 t) (iblk m c 1 t) (patchesAt m c t) (acc m c t.val) 32 := by
  rw [acc, dif_pos t.isLt]

/-- The step's condition, true at point 0 alone. -/
abbrev isFirst (i : grid0.Coords) : Prop := Scalar.cmpi .ne (Scalar.extui (Scalar.cmpi .eq (BitVec.ofNat 32 (i 0).val) 0#32) : BitVec 32) 0#32 = 1#1

/-- The step's first condition holds at point 0 alone. -/
theorem isFirst_iff : ∀ t : Fin cfg0.N, isFirst (grid0.coords t) ↔ t.val = 0 := (by decide +kernel : ∀ t : Fin grid0.N, _)

/-! ## The proof data -/

/-- The pipeline's data on core `c`: the arrays as the region finds them; an input's buffer keeps its block, the result's holds
    the sum so far; the zero volume, the scratch and the semaphore are the invariant; nothing is owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => acc m c (t.val + 1)
  Φ _ := Pipeline.ΦD osem0 spec0 H0 (V m) c
  q _ := fullShare
  owed _ := 0

/-- A window's array at the region's entry. -/
theorem A_eq (c : Dev nD) (w : Fin cfg0.W) : (dats m 0 c).A w = V m c (Pipeline.arrRef spec0 w) := by
  dsimp only [dats]
/-- What a point leaves in window 0's block: the block as handed. -/
theorem after_0 (c : Dev nD) (t : Fin cfg0.N) : (dats m 0 c).after 0 t = iblk m c 0 t := by dsimp only [dats]
/-- What a point leaves in window 1's block: the block as handed. -/
theorem after_1 (c : Dev nD) (t : Fin cfg0.N) : (dats m 0 c).after 1 t = iblk m c 1 t := by dsimp only [dats]
/-- What a point leaves in window 2's block: the block as handed. -/
theorem after_2 (c : Dev nD) (t : Fin cfg0.N) : (dats m 0 c).after 2 t = iblk m c 2 t := by dsimp only [dats]
/-- What a point leaves in window 3's block: the block as handed. -/
theorem after_3 (c : Dev nD) (t : Fin cfg0.N) : (dats m 0 c).after 3 t = iblk m c 3 t := by dsimp only [dats]
/-- What a point leaves in window 4's block: the block as handed. -/
theorem after_4 (c : Dev nD) (t : Fin cfg0.N) : (dats m 0 c).after 4 t = iblk m c 4 t := by dsimp only [dats]
/-- What a point leaves in window 5's block: the block as handed. -/
theorem after_5 (c : Dev nD) (t : Fin cfg0.N) : (dats m 0 c).after 5 t = iblk m c 5 t := by dsimp only [dats]
/-- What a point leaves in window 6's block: the block as handed. -/
theorem after_6 (c : Dev nD) (t : Fin cfg0.N) : (dats m 0 c).after 6 t = iblk m c 6 t := by dsimp only [dats]
/-- What a point leaves in window 7's block: the block as handed. -/
theorem after_7 (c : Dev nD) (t : Fin cfg0.N) : (dats m 0 c).after 7 t = iblk m c 7 t := by dsimp only [dats]
/-- What a point leaves in window 8's block: the block as handed. -/
theorem after_8 (c : Dev nD) (t : Fin cfg0.N) : (dats m 0 c).after 8 t = iblk m c 8 t := by dsimp only [dats]
/-- What a point leaves in window 9's block: the block as handed. -/
theorem after_9 (c : Dev nD) (t : Fin cfg0.N) : (dats m 0 c).after 9 t = iblk m c 9 t := by dsimp only [dats]
/-- What a point leaves in window 10's block: the block as handed. -/
theorem after_10 (c : Dev nD) (t : Fin cfg0.N) : (dats m 0 c).after 10 t = iblk m c 10 t := by dsimp only [dats]
/-- What a point leaves in window 11's block: the block as handed. -/
theorem after_11 (c : Dev nD) (t : Fin cfg0.N) : (dats m 0 c).after 11 t = iblk m c 11 t := by dsimp only [dats]
/-- What a point leaves in window 12's block: the block as handed. -/
theorem after_12 (c : Dev nD) (t : Fin cfg0.N) : (dats m 0 c).after 12 t = iblk m c 12 t := by dsimp only [dats]
/-- What a point leaves in window 13's block: the block as handed. -/
theorem after_13 (c : Dev nD) (t : Fin cfg0.N) : (dats m 0 c).after 13 t = iblk m c 13 t := by dsimp only [dats]
/-- What a point leaves in window 14's block: the volume with its patches added. -/
theorem after_14 (c : Dev nD) (t : Fin cfg0.N) : (dats m 0 c).after 14 t = acc m c (t.val + 1) := by dsimp only [dats]

/-- Input window 0's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's buffer holds its block at every point. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's buffer holds its block at every point. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's buffer holds its block at every point. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's buffer holds its block at every point. -/
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Input window 5's buffer holds its block at every point. -/
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Input window 6's buffer holds its block at every point. -/
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
/-- Input window 7's buffer holds its block at every point. -/
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
/-- Input window 8's buffer holds its block at every point. -/
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
/-- Input window 9's buffer holds its block at every point. -/
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
/-- Input window 10's buffer holds its block at every point. -/
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
/-- Input window 11's buffer holds its block at every point. -/
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
/-- Input window 12's buffer holds its block at every point. -/
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
/-- Input window 13's buffer holds its block at every point. -/
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)

/-- Before the last point nothing is written back. -/
theorem noflush_pre : ∀ t : Fin cfg0.N, t.val + 1 < 512 → (cfg0.win 14).flush t = false := (by decide +kernel : ∀ t : Fin grid0.N, _)
/-- The result's window is not written back before the last point. -/
theorem noflush (t : Fin cfg0.N) (ht : t.val ≠ 0) : (cfg0.win 14).flush ⟨t.val - 1, Nat.lt_of_le_of_lt (Nat.sub_le _ _) t.isLt⟩ = false :=
  noflush_pre _ (by have h : t.val < 512 := lt_of_lt_of_eq t.isLt Gen.N_0; show t.val - 1 + 1 < 512; omega)

/-- The result's buffer at a later point holds what the point before left. -/
theorem before_out (c : Dev nD) (t : Fin cfg0.N) (ht : t.val ≠ 0) (d) : (dats m 0 c).before 14 t d = acc m c t.val := by
  rw [(dats m 0 c).before_out_kept 14 rfl t ht (noflush t ht) (fun _ => rfl) (fun _ _ => rfl) d, after_14]
  congr 1
  show t.val - 1 + 1 = t.val
  omega

/-- The invariant, written out. -/
theorem PhiD0_eq (c : Dev nD) : (Pipeline.ΦD osem0 spec0 H0 (V m) c : sProp 𝕄)
    = iprop((∃ d, owns (c : Thread nD τ) (Memref.whole cc0_scratch0) fullShare d) ∗ (∃ r, prngReg c r)
      ∗ semVal ((c : Thread nD τ), SemLoc.dma 29) 0 ∗ owns (c : Thread nD τ) (Memref.whole main_call0_v33) fullShare (V m c main_call0_v33)) := by
  rw [Pipeline.ΦD_eq, scopedRest0_eq, Pipeline.ownSems0_eq_of_list c osem0 [0] (by decide) (by decide),
    BI.bigSep_eq_bigSepL_of_eq [main_call0_v33] (by decide) (by decide)]
  simp only [owns_whole]
  rfl

/-! ## The body obligation -/

/-- What a step is handed. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))
/-- What a step leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t))

set_option maxHeartbeats 1600000 in
/-- The body at point `t`: from the sum of the points before, the sum with this point's patches. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  simp only [before_0, before_1, before_2, before_3, before_4, before_5, before_6, before_7, before_8, before_9, before_10, before_11, before_12, before_13, after_0, after_1, after_2, after_3, after_4, after_5, after_6, after_7, after_8, after_9, after_10, after_11, after_12, after_13, after_14]
  iintro ⟨⟨HS, Hg, Hq, Hh⟩, ⟨%W, -, HW⟩, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩, ⟨%d10, B10⟩, ⟨%d11, B11⟩, ⟨%d12, B12⟩, ⟨%d13, B13⟩, ⟨%d14, B14⟩⟩
  by_cases hi : isFirst (grid0.coords t)
  · have h0 : t.val = 0 := (isFirst_iff t).mp hi
    have e : (runFirst c (grid0.coords t) hi (Memref.whole main_call0_v33) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (V m c main_call0_v33) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) (blk_sz_le m c t) (blk_sy_le m c t)).1 = acc m c (t.val + 1) := by
      rw [runFirst_eq, acc_succ, h0]; rfl
    rw [← e]
    iapply ((runFirst c (grid0.coords t) hi (Memref.whole main_call0_v33) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (V m c main_call0_v33) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) (blk_sz_le m c t) (blk_sy_le m c t)).2 W _)
    isplitl [Hh]; · iexact Hh
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [HS]; · iexact HS
    isplitl [Hq]; · iexact Hq
    isplitl [HW]; · iexact HW
    iintro ⟨Hh, B0, B1, B2, B3, B4, B5, B6, B7, B8, B9, B10, B11, B12, B13, B14, HS, Hq, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  · have h0 : t.val ≠ 0 := fun h => hi ((isFirst_iff t).mpr h)
    rw [before_out m c t h0]
    have e : (runNext c (grid0.coords t) hi (Memref.whole main_call0_v33) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (V m c main_call0_v33) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (acc m c t.val) (blk_sz_le m c t) (blk_sy_le m c t)).1 = acc m c (t.val + 1) := by
      rw [runNext_eq, acc_succ]; rfl
    rw [← e]
    iapply ((runNext c (grid0.coords t) hi (Memref.whole main_call0_v33) (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (V m c main_call0_v33) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (acc m c t.val) (blk_sz_le m c t) (blk_sy_le m c t)).2 W _)
    isplitl [Hh]; · iexact Hh
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [HS]; · iexact HS
    isplitl [Hq]; · iexact Hq
    isplitl [HW]; · iexact HW
    iintro ⟨Hh, B0, B1, B2, B3, B4, B5, B6, B7, B8, B9, B10, B11, B12, B13, B14, HS, Hq, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14

/-- The body that the region runs at a point. -/
theorem defs₀_row (t : Fin cfg0.N) :
    defs₀ (F := F) .tc cfg0.body (cfg0.bodyArgs t (cfg0.slots t)) = bodyAt0 t := by
  unfold defs₀; rw [Defs.onTc_tc]

/-- Every step does what the data says. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution: the windows' arrays end at what the data says, every other buffer as the host lines leave it, and no
    semaphore is left counting. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m) (hA := A_eq m) (hin := fun _ => .rfl) (hout := fun _ => .rfl)

/-- No line after the region writes argument `b`, and none before it: it ends as launched. -/
theorem W_arg (c : Dev nD) (b : Ref sig .tc) (hb : b ≠ main_v0) (hw : ∀ w, Pipeline.arrRef spec0 w ≠ b)
    (hV : V m c b = m ((c : Thread nD τ).loc b)) : Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]
  exact hV

/-- The frame: every execution ends, faults nowhere, leaves the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Pipeline.mem_restRefs_of main_arg0 (by decide) (by decide))).trans (W_arg m c main_arg0 (by decide) (by decide) (V_main_arg0 m c)),
      ((h.1 c).2 main_arg1 (Pipeline.mem_restRefs_of main_arg1 (by decide) (by decide))).trans (W_arg m c main_arg1 (by decide) (by decide) (V_main_arg1 m c)),
      ((h.1 c).2 main_arg2 (Pipeline.mem_restRefs_of main_arg2 (by decide) (by decide))).trans (W_arg m c main_arg2 (by decide) (by decide) (V_main_arg2 m c)),
      ((h.1 c).2 main_arg3 (Pipeline.mem_restRefs_of main_arg3 (by decide) (by decide))).trans (W_arg m c main_arg3 (by decide) (by decide) (V_main_arg3 m c))⟩, h.2⟩)
    (run_main m ρ)

end Cert.KernelIdeal.Hand

end
-- ==== Proof.ReferenceFrame.lean ====
module

public import proofs.«01_k».proof.Defs
public import proofs.«01_k».proof.Proof.Gen.ReferenceIdeal.Run
public import Idealize.ShloMosaic.Lib.Quiescent

@[expose] public section

noncomputable section

namespace Cert.ReferenceIdeal.Hand

open Idealize.ShloMosaic Idealize.SL.Sem Cert.ReferenceIdeal

/-- The reference terminates without a fault, leaves its four arguments as they were, and, declaring no
    semaphore, ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩) (Value.run m ρ)

end Cert.ReferenceIdeal.Hand

end
-- ==== Proof.Scalar.lean ====
module

public import Idealize.ShloMosaic.PureOps.Ideal
public import Idealize.ShloMosaic.Lib.IdealHost
public import Idealize.ShloMosaic.Init

@[expose] public section

/-! # One point's Gaussian at one voxel, over the extended reals

The names of this module are the steps by which both programs compute one point's weight. -/

noncomputable section

namespace Cert.Value

open Idealize.ShloMosaic
open scoped Classical

/-- The float nearest to a millionth: the least norm of a quaternion, and the least amplitude. -/
abbrev micro : EReal := ((8796093 / 8796093022208 : ℝ) : EReal)

/-- The float nearest to a thousandth: the least scale. -/
abbrev milli : EReal := ((8589935 / 8589934592 : ℝ) : EReal)

/-- One where the proposition holds, zero where it does not. -/
def ind (p : Prop) : EReal := if p then 1 else 0

/-- The norm of a quaternion, no less than `micro`. -/
def qnorm (w x y z : EReal) : EReal := max micro (Ideal.sqrt (w * w + x * x + y * y + z * z))

/-- The rotation matrix of a normalized quaternion. -/
def rot (w x y z : EReal) : Fin 3 → Fin 3 → EReal :=
  ![![w * w + x * x - y * y - z * z, ((2 : ℝ) : EReal) * (x * y - w * z), ((2 : ℝ) : EReal) * (x * z + w * y)],
    ![((2 : ℝ) : EReal) * (x * y + w * z), w * w - x * x + y * y - z * z, ((2 : ℝ) : EReal) * (y * z - w * x)],
    ![((2 : ℝ) : EReal) * (x * z - w * y), ((2 : ℝ) : EReal) * (y * z + w * x), w * w - x * x - y * y + z * z]]

/-- An entry of `R diag(d) R^T`. -/
def prec (R : Fin 3 → Fin 3 → EReal) (d0 d1 d2 : EReal) (i k : Fin 3) : EReal :=
  R i 0 * R k 0 * d0 + R i 1 * R k 1 * d1 + R i 2 * R k 2 * d2

/-- The inverse square of a scale that is no less than `milli`. -/
def inv (s : EReal) : EReal := Ideal.div ((1 : ℝ) : EReal) (max milli s * max milli s)

/-- A point's reach: three times its largest scale. -/
def reach (s0 s1 s2 : EReal) : EReal := max (max (max milli s0) (max milli s1)) (max milli s2) * ((3 : ℝ) : EReal)

/-- A point's precision matrix, from its quaternion and its scales. -/
def precOf (w x y z s0 s1 s2 : EReal) : Fin 3 → Fin 3 → EReal :=
  prec (rot (Ideal.div w (qnorm w x y z)) (Ideal.div x (qnorm w x y z)) (Ideal.div y (qnorm w x y z)) (Ideal.div z (qnorm w x y z)))
    (inv s0) (inv s1) (inv s2)

/-- The quadratic form of a matrix, as the kernel evaluates it. -/
def quad (P : Fin 3 → Fin 3 → EReal) (rz ry rx : EReal) : EReal :=
  P 1 1 * ry * ry + P 2 2 * rx * rx + ((2 : ℝ) : EReal) * P 1 2 * ry * rx
    + rz * (P 0 0 * rz + ((2 : ℝ) : EReal) * (P 0 1 * ry + P 0 2 * rx))

/-- The first coordinate of a point's window on one axis: its cell less four. -/
def base (c : EReal) : EReal := Ideal.liftRound Int.floor c - ((4 : ℝ) : EReal)

/-- The coordinate `v` is in the point's window of nine on this axis, in its reach and in the volume. -/
def ax (c r v : EReal) : Prop :=
  ((base c ≤ v ∧ v ≤ base c + ((8 : ℝ) : EReal)) ∧ max 0 (Ideal.liftRound Int.floor (c - r)) ≤ v)
    ∧ v ≤ min ((127 : ℝ) : EReal) (Ideal.liftRound Int.ceil (c + r))

/-- The point's amplitude is not negligible. -/
def loud (a b : EReal) : Prop := ((77371252064649 / 77371252455336267181195264 : ℝ) : EReal) ≤ a * a + b * b

/-- The first plane of the kernel's patch, in floats. -/
def low (c : EReal) : EReal := min ((119 : ℝ) : EReal) (max 0 (base c))

/-- The first row of the kernel's patch, in floats: a multiple of eight. -/
def lowRow (c : EReal) : EReal := Ideal.liftRound Int.floor (Ideal.div (low c) ((8 : ℝ) : EReal)) * ((8 : ℝ) : EReal)

/-- The kernel's weight of a point at a voxel's coordinates. -/
def weight (P : Fin 3 → Fin 3 → EReal) (cz cy cx r a b vz vy vx : EReal) : EReal :=
  Ideal.exp2 (max (quad P (vz - cz) (vy - cy) (vx - cx) * (((-1 / 2) * (Real.log 2)⁻¹ : ℝ) : EReal)) ⊥)
    * (ind (ax cy r vy) * ind (ax cx r vx) * ind (loud a b) * ind (ax cz r vz))

/-- The number that this float word is. -/
theorem ofBits_127 : Ideal.ofBits .f32 0x42FE0000#32 = ((127 : ℝ) : EReal) := by
  simp [Ideal.ofBits, Ideal.ieee, -EReal.coe_mul]; norm_num
/-- The number that this float word is. -/
theorem ofBits_119 : Ideal.ofBits .f32 0x42EE0000#32 = ((119 : ℝ) : EReal) := by
  simp [Ideal.ofBits, Ideal.ieee, -EReal.coe_mul]; norm_num
/-- The number that this float word is. -/
theorem ofBits_8 : Ideal.ofBits .f32 0x41000000#32 = ((8 : ℝ) : EReal) := by
  simp [Ideal.ofBits, Ideal.ieee, -EReal.coe_mul]; norm_num
/-- The number that this float word is. -/
theorem ofBits_7 : Ideal.ofBits .f32 0x40E00000#32 = ((7 : ℝ) : EReal) := by
  simp [Ideal.ofBits, Ideal.ieee, -EReal.coe_mul]; norm_num
/-- The number that this float word is. -/
theorem ofBits_6 : Ideal.ofBits .f32 0x40C00000#32 = ((6 : ℝ) : EReal) := by
  simp [Ideal.ofBits, Ideal.ieee, -EReal.coe_mul]; norm_num
/-- The number that this float word is. -/
theorem ofBits_5 : Ideal.ofBits .f32 0x40A00000#32 = ((5 : ℝ) : EReal) := by
  simp [Ideal.ofBits, Ideal.ieee, -EReal.coe_mul]; norm_num
/-- The number that this float word is. -/
theorem ofBits_4 : Ideal.ofBits .f32 0x40800000#32 = ((4 : ℝ) : EReal) := by
  simp [Ideal.ofBits, Ideal.ieee, -EReal.coe_mul]; norm_num
/-- The number that this float word is. -/
theorem ofBits_3 : Ideal.ofBits .f32 0x40400000#32 = ((3 : ℝ) : EReal) := by
  simp [Ideal.ofBits, Ideal.ieee, -EReal.coe_mul]; norm_num
/-- The number that this float word is. -/
theorem ofBits_2 : Ideal.ofBits .f32 0x40000000#32 = ((2 : ℝ) : EReal) := by
  simp [Ideal.ofBits, Ideal.ieee, -EReal.coe_mul]; norm_num
/-- The number that this float word is. -/
theorem ofBits_1 : Ideal.ofBits .f32 0x3F800000#32 = ((1 : ℝ) : EReal) := by
  simp [Ideal.ofBits, Ideal.ieee, -EReal.coe_mul]; norm_num
/-- The number that this float word is. -/
theorem ofBits_neg_half : Ideal.ofBits .f32 0xBF000000#32 = ((-1 / 2 : ℝ) : EReal) := by
  simp [Ideal.ofBits, Ideal.ieee, -EReal.coe_mul, -EReal.coe_neg]; norm_num
/-- The number that this float word is. -/
theorem ofBits_micro : Ideal.ofBits .f32 0x358637BD#32 = micro := by
  simp [micro, Ideal.ofBits, Ideal.ieee, -EReal.coe_mul]; norm_num
/-- The number that this float word is. -/
theorem ofBits_milli : Ideal.ofBits .f32 0x3A83126F#32 = milli := by
  simp [milli, Ideal.ofBits, Ideal.ieee, -EReal.coe_mul]; norm_num
/-- The number that this float word is. -/
theorem ofBits_tenthMilli : Ideal.ofBits .f32 0x38D1B717#32 = ((13743895 / 137438953472 : ℝ) : EReal) := by
  simp [Ideal.ofBits, Ideal.ieee, -EReal.coe_mul]; norm_num

/-- A word read as a signed integer and made a float. -/
theorem sitofp_eq (w : BitVec 32) : (FloatOps.sitofp .f32 w : Ideal .f32) = ((w.toInt : ℝ) : EReal) := rfl

/-- Four comparisons joined bit by bit and made a float: one where all hold. -/
theorem mask4 (a b c d : Prop) [Decidable a] [Decidable b] [Decidable c] [Decidable d] :
    (FloatOps.sitofp .f32 (BitVec.setWidth 32 (IntOp.andi (IntOp.andi (IntOp.andi (BitVec.ofBool (decide a)) (BitVec.ofBool (decide b)))
      (BitVec.ofBool (decide c))) (BitVec.ofBool (decide d)))) : Ideal .f32) = ind (((a ∧ b) ∧ c) ∧ d) := by
  unfold ind
  by_cases a <;> by_cases b <;> by_cases c <;> by_cases d <;> simp [*, IntOp.andi, sitofp_eq]

/-- One comparison made a float: one where it holds. -/
theorem mask1 (a : Prop) [Decidable a] :
    (FloatOps.sitofp .f32 (BitVec.setWidth 32 (BitVec.ofBool (decide a))) : Ideal .f32) = ind a := by
  unfold ind
  by_cases a <;> simp [*, sitofp_eq]

end Cert.Value

end
-- ==== Proof.KernelValues.lean ====
module

public import proofs.«01_k».proof.Proof.KernelIdealChain
public import proofs.«01_k».proof.Proof.Scalar
public import Idealize.ShloMosaic.Lib.Pointwise

@[expose] public section

set_option maxRecDepth 16384

/-! # The values a step computes, read at one point of its block

Every theorem `vN_at` opens the step's `N`-th value at the point `b` of the block, over the extended reals. -/

noncomputable section

namespace Cert.KernelIdeal.Hand

open Cert.KernelIdeal Cert.KernelIdeal.Gen Cert.Value
open Idealize.ShloMosaic Idealize.ShloMosaic.Tactic

variable (arg4 arg5 arg6 arg7 arg8 arg9 arg10 arg11 arg12 arg13 arg14 arg15 : Memref sig .tc .vmem S32x1 .f32)
  (x4 x5 x6 x7 x8 x9 x10 x11 x12 x13 x14 x15 : Vec Ideal S32x1 .f32) (b : Fin 32)

/-- A column's block, loaded whole, holds the column's values. -/
theorem col_at (arg : Memref sig .tc .vmem S32x1 .f32) (x : Vec Ideal S32x1 .f32) (b : Fin 32)
    (h : ∀ a, (![0, 0] : Fin 2 → ℕ) a + S32x1.size a ≤ S32x1.size a) (hc : S32x1.ShapeCasts S32x1) :
    shapeCast S32x1 (View.readAt (Elt Ideal) arg.view (Rect.unit ![0, 0] S32x1.size h).toLoadRect (arg.view.rep x)) hc (ix2 b 0) = x (ix2 b 0) := by
  rw [View.readAt_rep_full]
  pointwise

/-- The block of a column, loaded whole. -/
theorem v4_at : runNext.sl.v4 arg4 x4 (ix2 b 0) = (x4 (ix2 b 0)) := by
  unfold runNext.sl.v4
  exact col_at arg4 x4 b _ _

/-- Value 9 at the point `b`. -/
theorem v9_at : runNext.sl.v9 arg5 x5 (ix2 b 0) = (x5 (ix2 b 0)) := by
  unfold runNext.sl.v9
  exact col_at arg5 x5 b _ _

/-- Value 14 at the point `b`. -/
theorem v14_at : runNext.sl.v14 arg6 x6 (ix2 b 0) = (x6 (ix2 b 0)) := by
  unfold runNext.sl.v14
  exact col_at arg6 x6 b _ _

/-- Value 19 at the point `b`. -/
theorem v19_at : runNext.sl.v19 arg7 x7 (ix2 b 0) = (x7 (ix2 b 0)) := by
  unfold runNext.sl.v19
  exact col_at arg7 x7 b _ _

/-- Value 24 at the point `b`. -/
theorem v24_at : runNext.sl.v24 arg8 x8 (ix2 b 0) = (x8 (ix2 b 0)) := by
  unfold runNext.sl.v24
  exact col_at arg8 x8 b _ _

/-- Value 29 at the point `b`. -/
theorem v29_at : runNext.sl.v29 arg9 x9 (ix2 b 0) = (x9 (ix2 b 0)) := by
  unfold runNext.sl.v29
  exact col_at arg9 x9 b _ _

/-- Value 34 at the point `b`. -/
theorem v34_at : runNext.sl.v34 arg10 x10 (ix2 b 0) = (x10 (ix2 b 0)) := by
  unfold runNext.sl.v34
  exact col_at arg10 x10 b _ _

/-- Value 37 at the point `b`. -/
theorem v37_at : runNext.sl.v37 arg11 x11 (ix2 b 0) = (x11 (ix2 b 0)) := by
  unfold runNext.sl.v37
  exact col_at arg11 x11 b _ _

/-- Value 40 at the point `b`. -/
theorem v40_at : runNext.sl.v40 arg12 x12 (ix2 b 0) = (x12 (ix2 b 0)) := by
  unfold runNext.sl.v40
  exact col_at arg12 x12 b _ _

/-- Value 43 at the point `b`. -/
theorem v43_at : runNext.sl.v43 arg13 x13 (ix2 b 0) = (x13 (ix2 b 0)) := by
  unfold runNext.sl.v43
  exact col_at arg13 x13 b _ _

/-- Value 46 at the point `b`. -/
theorem v46_at : runNext.sl.v46 arg14 x14 (ix2 b 0) = (x14 (ix2 b 0)) := by
  unfold runNext.sl.v46
  exact col_at arg14 x14 b _ _

/-- Value 49 at the point `b`. -/
theorem v49_at : runNext.sl.v49 arg15 x15 (ix2 b 0) = (x15 (ix2 b 0)) := by
  unfold runNext.sl.v49
  exact col_at arg15 x15 b _ _

/-- Value 7 at the point `b`. -/
theorem v7_at : runNext.sl.v7 arg4 x4 (ix3 b 0 0) = ((x4 (ix2 b 0)) * ((127 : ℝ) : EReal)) := by
  simp only [runNext.sl.v7, runNext.sl.v5, runNext.sl.v6, runNext.sl.cst]
  pointwise
  try simp only [v4_at, ofBits_127, ofBits_119, ofBits_8, ofBits_4, ofBits_3, ofBits_2, ofBits_1, ofBits_micro, ofBits_milli]
  try rfl

/-- Value 12 at the point `b`. -/
theorem v12_at : runNext.sl.v12 arg5 x5 (ix3 b 0 0) = ((x5 (ix2 b 0)) * ((127 : ℝ) : EReal)) := by
  simp only [runNext.sl.v12, runNext.sl.v10, runNext.sl.v6, runNext.sl.cst]
  pointwise
  try simp only [v9_at, ofBits_127, ofBits_119, ofBits_8, ofBits_4, ofBits_3, ofBits_2, ofBits_1, ofBits_micro, ofBits_milli]
  try rfl

/-- Value 17 at the point `b`. -/
theorem v17_at : runNext.sl.v17 arg6 x6 (ix3 b 0 0) = ((x6 (ix2 b 0)) * ((127 : ℝ) : EReal)) := by
  simp only [runNext.sl.v17, runNext.sl.v15, runNext.sl.v6, runNext.sl.cst]
  pointwise
  try simp only [v14_at, ofBits_127, ofBits_119, ofBits_8, ofBits_4, ofBits_3, ofBits_2, ofBits_1, ofBits_micro, ofBits_milli]
  try rfl

/-- Value 22 at the point `b`. -/
theorem v22_at : runNext.sl.v22 arg7 x7 (ix3 b 0 0) = max milli (x7 (ix2 b 0)) := by
  simp only [runNext.sl.v22, runNext.sl.v21, runNext.sl.cst_10, runNext.sl.v20]
  pointwise
  try simp only [v19_at, ofBits_127, ofBits_119, ofBits_8, ofBits_4, ofBits_3, ofBits_2, ofBits_1, ofBits_micro, ofBits_milli]
  try rfl

/-- Value 27 at the point `b`. -/
theorem v27_at : runNext.sl.v27 arg8 x8 (ix3 b 0 0) = max milli (x8 (ix2 b 0)) := by
  simp only [runNext.sl.v27, runNext.sl.v21, runNext.sl.cst_10, runNext.sl.v25]
  pointwise
  try simp only [v24_at, ofBits_127, ofBits_119, ofBits_8, ofBits_4, ofBits_3, ofBits_2, ofBits_1, ofBits_micro, ofBits_milli]
  try rfl

/-- Value 32 at the point `b`. -/
theorem v32_at : runNext.sl.v32 arg9 x9 (ix3 b 0 0) = max milli (x9 (ix2 b 0)) := by
  simp only [runNext.sl.v32, runNext.sl.v21, runNext.sl.cst_10, runNext.sl.v30]
  pointwise
  try simp only [v29_at, ofBits_127, ofBits_119, ofBits_8, ofBits_4, ofBits_3, ofBits_2, ofBits_1, ofBits_micro, ofBits_milli]
  try rfl

/-- Value 35 at the point `b`. -/
theorem v35_at : runNext.sl.v35 arg10 x10 (ix3 b 0 0) = (x10 (ix2 b 0)) := by
  simp only [runNext.sl.v35]
  pointwise
  try simp only [v34_at, ofBits_127, ofBits_119, ofBits_8, ofBits_4, ofBits_3, ofBits_2, ofBits_1, ofBits_micro, ofBits_milli]
  try rfl

/-- Value 38 at the point `b`. -/
theorem v38_at : runNext.sl.v38 arg11 x11 (ix3 b 0 0) = (x11 (ix2 b 0)) := by
  simp only [runNext.sl.v38]
  pointwise
  try simp only [v37_at, ofBits_127, ofBits_119, ofBits_8, ofBits_4, ofBits_3, ofBits_2, ofBits_1, ofBits_micro, ofBits_milli]
  try rfl

/-- Value 41 at the point `b`. -/
theorem v41_at : runNext.sl.v41 arg12 x12 (ix3 b 0 0) = (x12 (ix2 b 0)) := by
  simp only [runNext.sl.v41]
  pointwise
  try simp only [v40_at, ofBits_127, ofBits_119, ofBits_8, ofBits_4, ofBits_3, ofBits_2, ofBits_1, ofBits_micro, ofBits_milli]
  try rfl

/-- Value 44 at the point `b`. -/
theorem v44_at : runNext.sl.v44 arg13 x13 (ix3 b 0 0) = (x13 (ix2 b 0)) := by
  simp only [runNext.sl.v44]
  pointwise
  try simp only [v43_at, ofBits_127, ofBits_119, ofBits_8, ofBits_4, ofBits_3, ofBits_2, ofBits_1, ofBits_micro, ofBits_milli]
  try rfl

/-- Value 47 at the point `b`. -/
theorem v47_at : runNext.sl.v47 arg14 x14 (ix3 b 0 0) = (x14 (ix2 b 0)) := by
  simp only [runNext.sl.v47]
  pointwise
  try simp only [v46_at, ofBits_127, ofBits_119, ofBits_8, ofBits_4, ofBits_3, ofBits_2, ofBits_1, ofBits_micro, ofBits_milli]
  try rfl

/-- Value 50 at the point `b`. -/
theorem v50_at : runNext.sl.v50 arg15 x15 (ix3 b 0 0) = (x15 (ix2 b 0)) := by
  simp only [runNext.sl.v50]
  pointwise
  try simp only [v49_at, ofBits_127, ofBits_119, ofBits_8, ofBits_4, ofBits_3, ofBits_2, ofBits_1, ofBits_micro, ofBits_milli]
  try rfl

/-- Value 61 at the point `b`. -/
theorem v61_at : runNext.sl.v61 arg10 arg11 arg12 arg13 x10 x11 x12 x13 (ix3 b 0 0) = (Ideal.div (x10 (ix2 b 0)) (qnorm (x10 (ix2 b 0)) (x11 (ix2 b 0)) (x12 (ix2 b 0)) (x13 (ix2 b 0)))) := by
  simp only [runNext.sl.v61, runNext.sl.v60, runNext.sl.v59, runNext.sl.cst_29, runNext.sl.v58, runNext.sl.v57, runNext.sl.v55, runNext.sl.v53, runNext.sl.v51, runNext.sl.v52, runNext.sl.v54, runNext.sl.v56]
  pointwise
  try simp only [v35_at, v38_at, v41_at, v44_at, ofBits_127, ofBits_119, ofBits_8, ofBits_4, ofBits_3, ofBits_2, ofBits_1, ofBits_micro, ofBits_milli]
  try rfl

/-- Value 62 at the point `b`. -/
theorem v62_at : runNext.sl.v62 arg10 arg11 arg12 arg13 x10 x11 x12 x13 (ix3 b 0 0) = (Ideal.div (x11 (ix2 b 0)) (qnorm (x10 (ix2 b 0)) (x11 (ix2 b 0)) (x12 (ix2 b 0)) (x13 (ix2 b 0)))) := by
  simp only [runNext.sl.v62, runNext.sl.v60, runNext.sl.v59, runNext.sl.cst_29, runNext.sl.v58, runNext.sl.v57, runNext.sl.v55, runNext.sl.v53, runNext.sl.v51, runNext.sl.v52, runNext.sl.v54, runNext.sl.v56]
  pointwise
  try simp only [v38_at, v35_at, v41_at, v44_at, ofBits_127, ofBits_119, ofBits_8, ofBits_4, ofBits_3, ofBits_2, ofBits_1, ofBits_micro, ofBits_milli]
  try rfl

/-- Value 63 at the point `b`. -/
theorem v63_at : runNext.sl.v63 arg10 arg11 arg12 arg13 x10 x11 x12 x13 (ix3 b 0 0) = (Ideal.div (x12 (ix2 b 0)) (qnorm (x10 (ix2 b 0)) (x11 (ix2 b 0)) (x12 (ix2 b 0)) (x13 (ix2 b 0)))) := by
  simp only [runNext.sl.v63, runNext.sl.v60, runNext.sl.v59, runNext.sl.cst_29, runNext.sl.v58, runNext.sl.v57, runNext.sl.v55, runNext.sl.v53, runNext.sl.v51, runNext.sl.v52, runNext.sl.v54, runNext.sl.v56]
  pointwise
  try simp only [v41_at, v35_at, v38_at, v44_at, ofBits_127, ofBits_119, ofBits_8, ofBits_4, ofBits_3, ofBits_2, ofBits_1, ofBits_micro, ofBits_milli]
  try rfl

/-- Value 64 at the point `b`. -/
theorem v64_at : runNext.sl.v64 arg10 arg11 arg12 arg13 x10 x11 x12 x13 (ix3 b 0 0) = (Ideal.div (x13 (ix2 b 0)) (qnorm (x10 (ix2 b 0)) (x11 (ix2 b 0)) (x12 (ix2 b 0)) (x13 (ix2 b 0)))) := by
  simp only [runNext.sl.v64, runNext.sl.v60, runNext.sl.v59, runNext.sl.cst_29, runNext.sl.v58, runNext.sl.v57, runNext.sl.v55, runNext.sl.v53, runNext.sl.v51, runNext.sl.v52, runNext.sl.v54, runNext.sl.v56]
  pointwise
  try simp only [v44_at, v35_at, v38_at, v41_at, ofBits_127, ofBits_119, ofBits_8, ofBits_4, ofBits_3, ofBits_2, ofBits_1, ofBits_micro, ofBits_milli]
  try rfl

/-- Value 77 at the point `b`. -/
theorem v77_at : runNext.sl.v77 arg10 arg11 arg12 arg13 x10 x11 x12 x13 (ix3 b 0 0) = (rot (Ideal.div (x10 (ix2 b 0)) (qnorm (x10 (ix2 b 0)) (x11 (ix2 b 0)) (x12 (ix2 b 0)) (x13 (ix2 b 0)))) (Ideal.div (x11 (ix2 b 0)) (qnorm (x10 (ix2 b 0)) (x11 (ix2 b 0)) (x12 (ix2 b 0)) (x13 (ix2 b 0)))) (Ideal.div (x12 (ix2 b 0)) (qnorm (x10 (ix2 b 0)) (x11 (ix2 b 0)) (x12 (ix2 b 0)) (x13 (ix2 b 0)))) (Ideal.div (x13 (ix2 b 0)) (qnorm (x10 (ix2 b 0)) (x11 (ix2 b 0)) (x12 (ix2 b 0)) (x13 (ix2 b 0))))) 0 0 := by
  simp only [runNext.sl.v77, runNext.sl.v76, runNext.sl.v75, runNext.sl.v65, runNext.sl.v66, runNext.sl.v67, runNext.sl.v68]
  pointwise
  try simp only [v61_at, v62_at, v63_at, v64_at, ofBits_127, ofBits_119, ofBits_8, ofBits_4, ofBits_3, ofBits_2, ofBits_1, ofBits_micro, ofBits_milli]
  try rfl

/-- Value 80 at the point `b`. -/
theorem v80_at : runNext.sl.v80 arg10 arg11 arg12 arg13 x10 x11 x12 x13 (ix3 b 0 0) = (rot (Ideal.div (x10 (ix2 b 0)) (qnorm (x10 (ix2 b 0)) (x11 (ix2 b 0)) (x12 (ix2 b 0)) (x13 (ix2 b 0)))) (Ideal.div (x11 (ix2 b 0)) (qnorm (x10 (ix2 b 0)) (x11 (ix2 b 0)) (x12 (ix2 b 0)) (x13 (ix2 b 0)))) (Ideal.div (x12 (ix2 b 0)) (qnorm (x10 (ix2 b 0)) (x11 (ix2 b 0)) (x12 (ix2 b 0)) (x13 (ix2 b 0)))) (Ideal.div (x13 (ix2 b 0)) (qnorm (x10 (ix2 b 0)) (x11 (ix2 b 0)) (x12 (ix2 b 0)) (x13 (ix2 b 0))))) 0 1 := by
  simp only [runNext.sl.v80, runNext.sl.v79, runNext.sl.cst_30, runNext.sl.v78, runNext.sl.v72, runNext.sl.v71]
  pointwise
  try simp only [v62_at, v63_at, v61_at, v64_at, ofBits_127, ofBits_119, ofBits_8, ofBits_4, ofBits_3, ofBits_2, ofBits_1, ofBits_micro, ofBits_milli]
  try rfl

/-- Value 83 at the point `b`. -/
theorem v83_at : runNext.sl.v83 arg10 arg11 arg12 arg13 x10 x11 x12 x13 (ix3 b 0 0) = (rot (Ideal.div (x10 (ix2 b 0)) (qnorm (x10 (ix2 b 0)) (x11 (ix2 b 0)) (x12 (ix2 b 0)) (x13 (ix2 b 0)))) (Ideal.div (x11 (ix2 b 0)) (qnorm (x10 (ix2 b 0)) (x11 (ix2 b 0)) (x12 (ix2 b 0)) (x13 (ix2 b 0)))) (Ideal.div (x12 (ix2 b 0)) (qnorm (x10 (ix2 b 0)) (x11 (ix2 b 0)) (x12 (ix2 b 0)) (x13 (ix2 b 0)))) (Ideal.div (x13 (ix2 b 0)) (qnorm (x10 (ix2 b 0)) (x11 (ix2 b 0)) (x12 (ix2 b 0)) (x13 (ix2 b 0))))) 0 2 := by
  simp only [runNext.sl.v83, runNext.sl.v79, runNext.sl.cst_30, runNext.sl.v81, runNext.sl.v73, runNext.sl.v70]
  pointwise
  try simp only [v62_at, v64_at, v61_at, v63_at, ofBits_127, ofBits_119, ofBits_8, ofBits_4, ofBits_3, ofBits_2, ofBits_1, ofBits_micro, ofBits_milli]
  try rfl

/-- Value 86 at the point `b`. -/
theorem v86_at : runNext.sl.v86 arg10 arg11 arg12 arg13 x10 x11 x12 x13 (ix3 b 0 0) = (rot (Ideal.div (x10 (ix2 b 0)) (qnorm (x10 (ix2 b 0)) (x11 (ix2 b 0)) (x12 (ix2 b 0)) (x13 (ix2 b 0)))) (Ideal.div (x11 (ix2 b 0)) (qnorm (x10 (ix2 b 0)) (x11 (ix2 b 0)) (x12 (ix2 b 0)) (x13 (ix2 b 0)))) (Ideal.div (x12 (ix2 b 0)) (qnorm (x10 (ix2 b 0)) (x11 (ix2 b 0)) (x12 (ix2 b 0)) (x13 (ix2 b 0)))) (Ideal.div (x13 (ix2 b 0)) (qnorm (x10 (ix2 b 0)) (x11 (ix2 b 0)) (x12 (ix2 b 0)) (x13 (ix2 b 0))))) 1 0 := by
  simp only [runNext.sl.v86, runNext.sl.v79, runNext.sl.cst_30, runNext.sl.v84, runNext.sl.v72, runNext.sl.v71]
  pointwise
  try simp only [v62_at, v63_at, v61_at, v64_at, ofBits_127, ofBits_119, ofBits_8, ofBits_4, ofBits_3, ofBits_2, ofBits_1, ofBits_micro, ofBits_milli]
  try rfl

/-- Value 89 at the point `b`. -/
theorem v89_at : runNext.sl.v89 arg10 arg11 arg12 arg13 x10 x11 x12 x13 (ix3 b 0 0) = (rot (Ideal.div (x10 (ix2 b 0)) (qnorm (x10 (ix2 b 0)) (x11 (ix2 b 0)) (x12 (ix2 b 0)) (x13 (ix2 b 0)))) (Ideal.div (x11 (ix2 b 0)) (qnorm (x10 (ix2 b 0)) (x11 (ix2 b 0)) (x12 (ix2 b 0)) (x13 (ix2 b 0)))) (Ideal.div (x12 (ix2 b 0)) (qnorm (x10 (ix2 b 0)) (x11 (ix2 b 0)) (x12 (ix2 b 0)) (x13 (ix2 b 0)))) (Ideal.div (x13 (ix2 b 0)) (qnorm (x10 (ix2 b 0)) (x11 (ix2 b 0)) (x12 (ix2 b 0)) (x13 (ix2 b 0))))) 1 1 := by
  simp only [runNext.sl.v89, runNext.sl.v88, runNext.sl.v87, runNext.sl.v65, runNext.sl.v66, runNext.sl.v67, runNext.sl.v68]
  pointwise
  try simp only [v61_at, v62_at, v63_at, v64_at, ofBits_127, ofBits_119, ofBits_8, ofBits_4, ofBits_3, ofBits_2, ofBits_1, ofBits_micro, ofBits_milli]
  try rfl

/-- Value 92 at the point `b`. -/
theorem v92_at : runNext.sl.v92 arg10 arg11 arg12 arg13 x10 x11 x12 x13 (ix3 b 0 0) = (rot (Ideal.div (x10 (ix2 b 0)) (qnorm (x10 (ix2 b 0)) (x11 (ix2 b 0)) (x12 (ix2 b 0)) (x13 (ix2 b 0)))) (Ideal.div (x11 (ix2 b 0)) (qnorm (x10 (ix2 b 0)) (x11 (ix2 b 0)) (x12 (ix2 b 0)) (x13 (ix2 b 0)))) (Ideal.div (x12 (ix2 b 0)) (qnorm (x10 (ix2 b 0)) (x11 (ix2 b 0)) (x12 (ix2 b 0)) (x13 (ix2 b 0)))) (Ideal.div (x13 (ix2 b 0)) (qnorm (x10 (ix2 b 0)) (x11 (ix2 b 0)) (x12 (ix2 b 0)) (x13 (ix2 b 0))))) 1 2 := by
  simp only [runNext.sl.v92, runNext.sl.v79, runNext.sl.cst_30, runNext.sl.v90, runNext.sl.v74, runNext.sl.v69]
  pointwise
  try simp only [v63_at, v64_at, v61_at, v62_at, ofBits_127, ofBits_119, ofBits_8, ofBits_4, ofBits_3, ofBits_2, ofBits_1, ofBits_micro, ofBits_milli]
  try rfl

/-- Value 95 at the point `b`. -/
theorem v95_at : runNext.sl.v95 arg10 arg11 arg12 arg13 x10 x11 x12 x13 (ix3 b 0 0) = (rot (Ideal.div (x10 (ix2 b 0)) (qnorm (x10 (ix2 b 0)) (x11 (ix2 b 0)) (x12 (ix2 b 0)) (x13 (ix2 b 0)))) (Ideal.div (x11 (ix2 b 0)) (qnorm (x10 (ix2 b 0)) (x11 (ix2 b 0)) (x12 (ix2 b 0)) (x13 (ix2 b 0)))) (Ideal.div (x12 (ix2 b 0)) (qnorm (x10 (ix2 b 0)) (x11 (ix2 b 0)) (x12 (ix2 b 0)) (x13 (ix2 b 0)))) (Ideal.div (x13 (ix2 b 0)) (qnorm (x10 (ix2 b 0)) (x11 (ix2 b 0)) (x12 (ix2 b 0)) (x13 (ix2 b 0))))) 2 0 := by
  simp only [runNext.sl.v95, runNext.sl.v79, runNext.sl.cst_30, runNext.sl.v93, runNext.sl.v73, runNext.sl.v70]
  pointwise
  try simp only [v62_at, v64_at, v61_at, v63_at, ofBits_127, ofBits_119, ofBits_8, ofBits_4, ofBits_3, ofBits_2, ofBits_1, ofBits_micro, ofBits_milli]
  try rfl

/-- Value 98 at the point `b`. -/
theorem v98_at : runNext.sl.v98 arg10 arg11 arg12 arg13 x10 x11 x12 x13 (ix3 b 0 0) = (rot (Ideal.div (x10 (ix2 b 0)) (qnorm (x10 (ix2 b 0)) (x11 (ix2 b 0)) (x12 (ix2 b 0)) (x13 (ix2 b 0)))) (Ideal.div (x11 (ix2 b 0)) (qnorm (x10 (ix2 b 0)) (x11 (ix2 b 0)) (x12 (ix2 b 0)) (x13 (ix2 b 0)))) (Ideal.div (x12 (ix2 b 0)) (qnorm (x10 (ix2 b 0)) (x11 (ix2 b 0)) (x12 (ix2 b 0)) (x13 (ix2 b 0)))) (Ideal.div (x13 (ix2 b 0)) (qnorm (x10 (ix2 b 0)) (x11 (ix2 b 0)) (x12 (ix2 b 0)) (x13 (ix2 b 0))))) 2 1 := by
  simp only [runNext.sl.v98, runNext.sl.v79, runNext.sl.cst_30, runNext.sl.v96, runNext.sl.v74, runNext.sl.v69]
  pointwise
  try simp only [v63_at, v64_at, v61_at, v62_at, ofBits_127, ofBits_119, ofBits_8, ofBits_4, ofBits_3, ofBits_2, ofBits_1, ofBits_micro, ofBits_milli]
  try rfl

/-- Value 101 at the point `b`. -/
theorem v101_at : runNext.sl.v101 arg10 arg11 arg12 arg13 x10 x11 x12 x13 (ix3 b 0 0) = (rot (Ideal.div (x10 (ix2 b 0)) (qnorm (x10 (ix2 b 0)) (x11 (ix2 b 0)) (x12 (ix2 b 0)) (x13 (ix2 b 0)))) (Ideal.div (x11 (ix2 b 0)) (qnorm (x10 (ix2 b 0)) (x11 (ix2 b 0)) (x12 (ix2 b 0)) (x13 (ix2 b 0)))) (Ideal.div (x12 (ix2 b 0)) (qnorm (x10 (ix2 b 0)) (x11 (ix2 b 0)) (x12 (ix2 b 0)) (x13 (ix2 b 0)))) (Ideal.div (x13 (ix2 b 0)) (qnorm (x10 (ix2 b 0)) (x11 (ix2 b 0)) (x12 (ix2 b 0)) (x13 (ix2 b 0))))) 2 2 := by
  simp only [runNext.sl.v101, runNext.sl.v100, runNext.sl.v87, runNext.sl.v65, runNext.sl.v66, runNext.sl.v67, runNext.sl.v68]
  pointwise
  try simp only [v61_at, v62_at, v63_at, v64_at, ofBits_127, ofBits_119, ofBits_8, ofBits_4, ofBits_3, ofBits_2, ofBits_1, ofBits_micro, ofBits_milli]
  try rfl

/-- Value 104 at the point `b`. -/
theorem v104_at : runNext.sl.v104 arg7 x7 (ix3 b 0 0) = inv (x7 (ix2 b 0)) := by
  simp only [runNext.sl.v104, runNext.sl.v103, runNext.sl.cst_36, runNext.sl.v102]
  pointwise
  try simp only [v22_at, ofBits_127, ofBits_119, ofBits_8, ofBits_4, ofBits_3, ofBits_2, ofBits_1, ofBits_micro, ofBits_milli]
  try rfl

/-- Value 107 at the point `b`. -/
theorem v107_at : runNext.sl.v107 arg8 x8 (ix3 b 0 0) = inv (x8 (ix2 b 0)) := by
  simp only [runNext.sl.v107, runNext.sl.v103, runNext.sl.cst_36, runNext.sl.v105]
  pointwise
  try simp only [v27_at, ofBits_127, ofBits_119, ofBits_8, ofBits_4, ofBits_3, ofBits_2, ofBits_1, ofBits_micro, ofBits_milli]
  try rfl

/-- Value 110 at the point `b`. -/
theorem v110_at : runNext.sl.v110 arg9 x9 (ix3 b 0 0) = inv (x9 (ix2 b 0)) := by
  simp only [runNext.sl.v110, runNext.sl.v103, runNext.sl.cst_36, runNext.sl.v108]
  pointwise
  try simp only [v32_at, ofBits_127, ofBits_119, ofBits_8, ofBits_4, ofBits_3, ofBits_2, ofBits_1, ofBits_micro, ofBits_milli]
  try rfl

/-- Value 118 at the point `b`. -/
theorem v118_at : runNext.sl.v118 arg7 arg8 arg9 arg10 arg11 arg12 arg13 x7 x8 x9 x10 x11 x12 x13 (ix3 b 0 0) = (precOf (x10 (ix2 b 0)) (x11 (ix2 b 0)) (x12 (ix2 b 0)) (x13 (ix2 b 0)) (x7 (ix2 b 0)) (x8 (ix2 b 0)) (x9 (ix2 b 0))) 0 0 := by
  simp only [runNext.sl.v118, runNext.sl.v115, runNext.sl.v112, runNext.sl.v111, runNext.sl.v114, runNext.sl.v113, runNext.sl.v117, runNext.sl.v116]
  pointwise
  try simp only [v104_at, v77_at, v107_at, v80_at, v110_at, v83_at, ofBits_127, ofBits_119, ofBits_8, ofBits_4, ofBits_3, ofBits_2, ofBits_1, ofBits_micro, ofBits_milli]
  try rfl

/-- Value 126 at the point `b`. -/
theorem v126_at : runNext.sl.v126 arg7 arg8 arg9 arg10 arg11 arg12 arg13 x7 x8 x9 x10 x11 x12 x13 (ix3 b 0 0) = (precOf (x10 (ix2 b 0)) (x11 (ix2 b 0)) (x12 (ix2 b 0)) (x13 (ix2 b 0)) (x7 (ix2 b 0)) (x8 (ix2 b 0)) (x9 (ix2 b 0))) 1 1 := by
  simp only [runNext.sl.v126, runNext.sl.v123, runNext.sl.v120, runNext.sl.v119, runNext.sl.v122, runNext.sl.v121, runNext.sl.v125, runNext.sl.v124]
  pointwise
  try simp only [v104_at, v86_at, v107_at, v89_at, v110_at, v92_at, ofBits_127, ofBits_119, ofBits_8, ofBits_4, ofBits_3, ofBits_2, ofBits_1, ofBits_micro, ofBits_milli]
  try rfl

/-- Value 134 at the point `b`. -/
theorem v134_at : runNext.sl.v134 arg7 arg8 arg9 arg10 arg11 arg12 arg13 x7 x8 x9 x10 x11 x12 x13 (ix3 b 0 0) = (precOf (x10 (ix2 b 0)) (x11 (ix2 b 0)) (x12 (ix2 b 0)) (x13 (ix2 b 0)) (x7 (ix2 b 0)) (x8 (ix2 b 0)) (x9 (ix2 b 0))) 2 2 := by
  simp only [runNext.sl.v134, runNext.sl.v131, runNext.sl.v128, runNext.sl.v127, runNext.sl.v130, runNext.sl.v129, runNext.sl.v133, runNext.sl.v132]
  pointwise
  try simp only [v104_at, v95_at, v107_at, v98_at, v110_at, v101_at, ofBits_127, ofBits_119, ofBits_8, ofBits_4, ofBits_3, ofBits_2, ofBits_1, ofBits_micro, ofBits_milli]
  try rfl

/-- Value 142 at the point `b`. -/
theorem v142_at : runNext.sl.v142 arg7 arg8 arg9 arg10 arg11 arg12 arg13 x7 x8 x9 x10 x11 x12 x13 (ix3 b 0 0) = (precOf (x10 (ix2 b 0)) (x11 (ix2 b 0)) (x12 (ix2 b 0)) (x13 (ix2 b 0)) (x7 (ix2 b 0)) (x8 (ix2 b 0)) (x9 (ix2 b 0))) 0 1 := by
  simp only [runNext.sl.v142, runNext.sl.v139, runNext.sl.v136, runNext.sl.v135, runNext.sl.v138, runNext.sl.v137, runNext.sl.v141, runNext.sl.v140]
  pointwise
  try simp only [v104_at, v77_at, v86_at, v107_at, v80_at, v89_at, v110_at, v83_at, v92_at, ofBits_127, ofBits_119, ofBits_8, ofBits_4, ofBits_3, ofBits_2, ofBits_1, ofBits_micro, ofBits_milli]
  try rfl

/-- Value 150 at the point `b`. -/
theorem v150_at : runNext.sl.v150 arg7 arg8 arg9 arg10 arg11 arg12 arg13 x7 x8 x9 x10 x11 x12 x13 (ix3 b 0 0) = (precOf (x10 (ix2 b 0)) (x11 (ix2 b 0)) (x12 (ix2 b 0)) (x13 (ix2 b 0)) (x7 (ix2 b 0)) (x8 (ix2 b 0)) (x9 (ix2 b 0))) 0 2 := by
  simp only [runNext.sl.v150, runNext.sl.v147, runNext.sl.v144, runNext.sl.v143, runNext.sl.v146, runNext.sl.v145, runNext.sl.v149, runNext.sl.v148]
  pointwise
  try simp only [v104_at, v77_at, v95_at, v107_at, v80_at, v98_at, v110_at, v83_at, v101_at, ofBits_127, ofBits_119, ofBits_8, ofBits_4, ofBits_3, ofBits_2, ofBits_1, ofBits_micro, ofBits_milli]
  try rfl

/-- Value 158 at the point `b`. -/
theorem v158_at : runNext.sl.v158 arg7 arg8 arg9 arg10 arg11 arg12 arg13 x7 x8 x9 x10 x11 x12 x13 (ix3 b 0 0) = (precOf (x10 (ix2 b 0)) (x11 (ix2 b 0)) (x12 (ix2 b 0)) (x13 (ix2 b 0)) (x7 (ix2 b 0)) (x8 (ix2 b 0)) (x9 (ix2 b 0))) 1 2 := by
  simp only [runNext.sl.v158, runNext.sl.v155, runNext.sl.v152, runNext.sl.v151, runNext.sl.v154, runNext.sl.v153, runNext.sl.v157, runNext.sl.v156]
  pointwise
  try simp only [v104_at, v86_at, v95_at, v107_at, v89_at, v98_at, v110_at, v92_at, v101_at, ofBits_127, ofBits_119, ofBits_8, ofBits_4, ofBits_3, ofBits_2, ofBits_1, ofBits_micro, ofBits_milli]
  try rfl

/-- Value 162 at the point `b`. -/
theorem v162_at : runNext.sl.v162 arg7 arg8 arg9 x7 x8 x9 (ix3 b 0 0) = reach (x7 (ix2 b 0)) (x8 (ix2 b 0)) (x9 (ix2 b 0)) := by
  simp only [runNext.sl.v162, runNext.sl.v160, runNext.sl.v159, runNext.sl.v161, runNext.sl.cst_39]
  pointwise
  try simp only [v32_at, v22_at, v27_at, ofBits_127, ofBits_119, ofBits_8, ofBits_4, ofBits_3, ofBits_2, ofBits_1, ofBits_micro, ofBits_milli]
  try rfl

/-- Value 165 at the point `b`. -/
theorem v165_at : runNext.sl.v165 arg4 x4 (ix3 b 0 0) = base ((x4 (ix2 b 0)) * ((127 : ℝ) : EReal)) := by
  simp only [runNext.sl.v165, runNext.sl.v163, runNext.sl.v164, runNext.sl.cst_40]
  pointwise
  try simp only [v7_at, ofBits_127, ofBits_119, ofBits_8, ofBits_4, ofBits_3, ofBits_2, ofBits_1, ofBits_micro, ofBits_milli]
  try rfl

/-- Value 168 at the point `b`. -/
theorem v168_at : runNext.sl.v168 arg5 x5 (ix3 b 0 0) = base ((x5 (ix2 b 0)) * ((127 : ℝ) : EReal)) := by
  simp only [runNext.sl.v168, runNext.sl.v166, runNext.sl.v164, runNext.sl.cst_40]
  pointwise
  try simp only [v12_at, ofBits_127, ofBits_119, ofBits_8, ofBits_4, ofBits_3, ofBits_2, ofBits_1, ofBits_micro, ofBits_milli]
  try rfl

/-- Value 171 at the point `b`. -/
theorem v171_at : runNext.sl.v171 arg6 x6 (ix3 b 0 0) = base ((x6 (ix2 b 0)) * ((127 : ℝ) : EReal)) := by
  simp only [runNext.sl.v171, runNext.sl.v169, runNext.sl.v164, runNext.sl.cst_40]
  pointwise
  try simp only [v17_at, ofBits_127, ofBits_119, ofBits_8, ofBits_4, ofBits_3, ofBits_2, ofBits_1, ofBits_micro, ofBits_milli]
  try rfl

/-- Value 175 at the point `b`. -/
theorem v175_at : runNext.sl.v175 arg4 x4 (ix3 b 0 0) = low ((x4 (ix2 b 0)) * ((127 : ℝ) : EReal)) := by
  simp only [runNext.sl.v175, runNext.sl.v174, runNext.sl.cst_44, runNext.sl.v173, runNext.sl.v172, runNext.sl.cst_43]
  pointwise
  try simp only [v165_at, ofBits_127, ofBits_119, ofBits_8, ofBits_4, ofBits_3, ofBits_2, ofBits_1, ofBits_micro, ofBits_milli]
  try rfl

/-- Value 184 at the point `b`. -/
theorem v184_at : runNext.sl.v184 arg5 x5 (ix3 b 0 0) = lowRow ((x5 (ix2 b 0)) * ((127 : ℝ) : EReal)) := by
  simp only [runNext.sl.v184, runNext.sl.v182, runNext.sl.v181, runNext.sl.v179, runNext.sl.v174, runNext.sl.cst_44, runNext.sl.v177, runNext.sl.v172, runNext.sl.cst_43, runNext.sl.v180, runNext.sl.cst_47]
  pointwise
  try simp only [v168_at, ofBits_127, ofBits_119, ofBits_8, ofBits_4, ofBits_3, ofBits_2, ofBits_1, ofBits_micro, ofBits_milli]
  try rfl

end Cert.KernelIdeal.Hand

end
-- ==== Proof.KernelCells.lean ====
module

public import proofs.«01_k».proof.Proof.KernelValues
public import Idealize.ShloMosaic.Lib.Pointwise

@[expose] public section

set_option maxRecDepth 16384

/-! # The masks and the quadratic form of a step, read at one point and one cell of its patch -/

noncomputable section

namespace Cert.KernelIdeal.Hand

open Cert.KernelIdeal Cert.KernelIdeal.Gen Cert.Value
open Idealize.ShloMosaic Idealize.ShloMosaic.Tactic

variable (arg4 arg5 arg6 arg7 arg8 arg9 arg10 arg11 arg12 arg13 arg14 arg15 : Memref sig .tc .vmem S32x1 .f32)
  (x4 x5 x6 x7 x8 x9 x10 x11 x12 x13 x14 x15 : Vec Ideal S32x1 .f32) (b : Fin 32) (y : Fin 16) (l : Fin 128)

/-- The number of a row or of a column, made a float. -/
theorem word_coe {n : ℕ} (k : Fin n) (h : n ≤ 2 ^ 31 := by decide) :
    (FloatOps.sitofp .f32 (BitVec.ofNat 32 k.val) : Ideal .f32) = ((k.val : ℝ) : EReal) := by
  rw [sitofp_eq, BitVec.toInt_ofNat']
  have : k.val < 2 ^ 31 := lt_of_lt_of_le k.isLt h
  rw [Int.bmod_eq_of_le (by omega) (by omega)]
  simp

/-- A row's number, made a float. -/
theorem word_row (k : Fin 16) : (FloatOps.sitofp .f32 (BitVec.ofNat 32 k.val) : Ideal .f32) = ((k.val : ℝ) : EReal) := word_coe k

/-- A column's number, made a float. -/
theorem word_lane (k : Fin 128) : (FloatOps.sitofp .f32 (BitVec.ofNat 32 k.val) : Ideal .f32) = ((k.val : ℝ) : EReal) := word_coe k

/-- The named square of the least amplitude. -/
theorem named_floor : (Named.named (F := Ideal) (φ := .f32) κ "amplitude_floor_sq" 0x2B8CBCCC#32) = ((77371252064649 / 77371252455336267181195264 : ℝ) : EReal) :=
  IdealRules.named_const.ideal_named_scalar κ _ _ _ rfl

/-- Value `r` of the step at the point `b` of the block. -/
theorem r_at : runNext.sl.r arg4 arg7 arg8 arg9 x4 x7 x8 x9 (ix3 b 0 0) = max 0 (Ideal.liftRound Int.floor (((x4 (ix2 b 0)) * ((127 : ℝ) : EReal)) - (reach (x7 (ix2 b 0)) (x8 (ix2 b 0)) (x9 (ix2 b 0))))) := by
  simp only [runNext.sl.r, runNext.sl.v185, k0_pay57]
  pointwise
  simp only [v7_at, v162_at, word_row, word_lane, mask4, mask1, ofBits_127, ofBits_119, ofBits_8, ofBits_4, ofBits_3, ofBits_2, ofBits_1, named_floor]
  try rfl

/-- Value `r_1` of the step at the point `b` of the block. -/
theorem r_1_at : runNext.sl.r_1 arg4 arg7 arg8 arg9 x4 x7 x8 x9 (ix3 b 0 0) = min ((127 : ℝ) : EReal) (Ideal.liftRound Int.ceil (((x4 (ix2 b 0)) * ((127 : ℝ) : EReal)) + (reach (x7 (ix2 b 0)) (x8 (ix2 b 0)) (x9 (ix2 b 0))))) := by
  simp only [runNext.sl.r_1, k0_pay58]
  pointwise
  simp only [v7_at, v162_at, word_row, word_lane, mask4, mask1, ofBits_127, ofBits_119, ofBits_8, ofBits_4, ofBits_3, ofBits_2, ofBits_1, named_floor]
  try rfl

/-- Value `r_2` of the step at the point `b` of the block. -/
theorem r_2_at : runNext.sl.r_2 arg6 arg7 arg8 arg9 x6 x7 x8 x9 (ix3 b 0 0) = max 0 (Ideal.liftRound Int.floor (((x6 (ix2 b 0)) * ((127 : ℝ) : EReal)) - (reach (x7 (ix2 b 0)) (x8 (ix2 b 0)) (x9 (ix2 b 0))))) := by
  simp only [runNext.sl.r_2, k0_pay59]
  pointwise
  simp only [v17_at, v162_at, word_row, word_lane, mask4, mask1, ofBits_127, ofBits_119, ofBits_8, ofBits_4, ofBits_3, ofBits_2, ofBits_1, named_floor]
  try rfl

/-- Value `r_3` of the step at the point `b` of the block. -/
theorem r_3_at : runNext.sl.r_3 arg6 arg7 arg8 arg9 x6 x7 x8 x9 (ix3 b 0 0) = min ((127 : ℝ) : EReal) (Ideal.liftRound Int.ceil (((x6 (ix2 b 0)) * ((127 : ℝ) : EReal)) + (reach (x7 (ix2 b 0)) (x8 (ix2 b 0)) (x9 (ix2 b 0))))) := by
  simp only [runNext.sl.r_3, k0_pay60]
  pointwise
  simp only [v17_at, v162_at, word_row, word_lane, mask4, mask1, ofBits_127, ofBits_119, ofBits_8, ofBits_4, ofBits_3, ofBits_2, ofBits_1, named_floor]
  try rfl

/-- Value `r_4` of the step at the point `b` of the block. -/
theorem r_4_at : runNext.sl.r_4 arg14 arg15 x14 x15 (ix3 b 0 0) = ind (loud (x14 (ix2 b 0)) (x15 (ix2 b 0))) := by
  simp only [runNext.sl.r_4, k0_pay61]
  pointwise
  simp only [v47_at, v50_at, word_row, word_lane, mask4, mask1, ofBits_127, ofBits_119, ofBits_8, ofBits_4, ofBits_3, ofBits_2, ofBits_1, named_floor]
  try rfl

/-- Value `r_5` of the step at the point `b` of the block. -/
theorem r_5_at : runNext.sl.r_5 arg5 x5 (ix3 b y 0) = lowRow ((x5 (ix2 b 0)) * ((127 : ℝ) : EReal)) + ((y.val : ℝ) : EReal) := by
  simp only [runNext.sl.r_5, k0_pay62, k0_pay63]
  pointwise
  simp only [v184_at, word_row, word_lane, mask4, mask1, ofBits_127, ofBits_119, ofBits_8, ofBits_4, ofBits_3, ofBits_2, ofBits_1, named_floor]
  try rfl

/-- Value `r_6` of the step at the point `b` of the block. -/
theorem r_6_at : runNext.sl.r_6 arg5 arg7 arg8 arg9 x5 x7 x8 x9 (ix3 b y 0) = ind (ax ((x5 (ix2 b 0)) * ((127 : ℝ) : EReal)) (reach (x7 (ix2 b 0)) (x8 (ix2 b 0)) (x9 (ix2 b 0))) (lowRow ((x5 (ix2 b 0)) * ((127 : ℝ) : EReal)) + ((y.val : ℝ) : EReal))) := by
  simp only [runNext.sl.r_6, k0_pay62, k0_pay63, k0_pay64]
  pointwise
  simp only [v12_at, v162_at, v168_at, v184_at, word_row, word_lane, mask4, mask1, ofBits_127, ofBits_119, ofBits_8, ofBits_4, ofBits_3, ofBits_2, ofBits_1, named_floor]
  try rfl

/-- Value `v256` of the step at the point `b` of the block. -/
theorem v256_at : runNext.sl.v256 arg6 arg7 arg8 arg9 x6 x7 x8 x9 (ix3 b 0 l) = ind (ax ((x6 (ix2 b 0)) * ((127 : ℝ) : EReal)) (reach (x7 (ix2 b 0)) (x8 (ix2 b 0)) (x9 (ix2 b 0))) ((l.val : ℝ) : EReal)) := by
  simp only [runNext.sl.v256, runNext.sl.v255, runNext.sl.v254, runNext.sl.v250, runNext.sl.v246, runNext.sl.v240, runNext.sl.v238, runNext.sl.v239, runNext.sl.v245, runNext.sl.v244, runNext.sl.v242, runNext.sl.v180, runNext.sl.cst_47, runNext.sl.v249, runNext.sl.v248, runNext.sl.v253, runNext.sl.v252, k0_pay62, k0_pay63]
  pointwise
  simp only [v171_at, r_2_at, r_3_at, word_row, word_lane, mask4, mask1, ofBits_127, ofBits_119, ofBits_8, ofBits_4, ofBits_3, ofBits_2, ofBits_1, named_floor]
  try rfl

/-- Value `v261` of the step at the point `b` of the block. -/
theorem v261_at : runNext.sl.v261 arg5 arg6 arg7 arg8 arg9 arg14 arg15 x5 x6 x7 x8 x9 x14 x15 (ix3 b y l) = ind (ax ((x5 (ix2 b 0)) * ((127 : ℝ) : EReal)) (reach (x7 (ix2 b 0)) (x8 (ix2 b 0)) (x9 (ix2 b 0))) (lowRow ((x5 (ix2 b 0)) * ((127 : ℝ) : EReal)) + ((y.val : ℝ) : EReal))) * ind (ax ((x6 (ix2 b 0)) * ((127 : ℝ) : EReal)) (reach (x7 (ix2 b 0)) (x8 (ix2 b 0)) (x9 (ix2 b 0))) ((l.val : ℝ) : EReal)) * ind (loud (x14 (ix2 b 0)) (x15 (ix2 b 0))) := by
  simp only [runNext.sl.v261, runNext.sl.v259, runNext.sl.v257, runNext.sl.v258, runNext.sl.v260]
  pointwise
  simp only [r_6_at, v256_at, r_4_at, word_row, word_lane, mask4, mask1, ofBits_127, ofBits_119, ofBits_8, ofBits_4, ofBits_3, ofBits_2, ofBits_1, named_floor]
  try rfl

/-- Value `v263` of the step at the point `b` of the block. -/
theorem v263_at : runNext.sl.v263 arg5 x5 (ix3 b y 0) = (lowRow ((x5 (ix2 b 0)) * ((127 : ℝ) : EReal)) + ((y.val : ℝ) : EReal) - ((x5 (ix2 b 0)) * ((127 : ℝ) : EReal))) := by
  simp only [runNext.sl.v263, runNext.sl.v262]
  pointwise
  simp only [r_5_at, v12_at, word_row, word_lane, mask4, mask1, ofBits_127, ofBits_119, ofBits_8, ofBits_4, ofBits_3, ofBits_2, ofBits_1, named_floor]
  try rfl

/-- Value `v266` of the step at the point `b` of the block. -/
theorem v266_at : runNext.sl.v266 arg6 x6 (ix3 b 0 l) = (((l.val : ℝ) : EReal) - ((x6 (ix2 b 0)) * ((127 : ℝ) : EReal))) := by
  simp only [runNext.sl.v266, runNext.sl.v238, runNext.sl.v265, k0_pay62, k0_pay63]
  pointwise
  simp only [v17_at, word_row, word_lane, mask4, mask1, ofBits_127, ofBits_119, ofBits_8, ofBits_4, ofBits_3, ofBits_2, ofBits_1, named_floor]
  try rfl

/-- Value `v283` of the step at the point `b` of the block. -/
theorem v283_at : runNext.sl.v283 arg5 arg6 arg7 arg8 arg9 arg10 arg11 arg12 arg13 x5 x6 x7 x8 x9 x10 x11 x12 x13 (ix3 b y l) = (precOf (x10 (ix2 b 0)) (x11 (ix2 b 0)) (x12 (ix2 b 0)) (x13 (ix2 b 0)) (x7 (ix2 b 0)) (x8 (ix2 b 0)) (x9 (ix2 b 0))) 1 1 * (lowRow ((x5 (ix2 b 0)) * ((127 : ℝ) : EReal)) + ((y.val : ℝ) : EReal) - ((x5 (ix2 b 0)) * ((127 : ℝ) : EReal))) * (lowRow ((x5 (ix2 b 0)) * ((127 : ℝ) : EReal)) + ((y.val : ℝ) : EReal) - ((x5 (ix2 b 0)) * ((127 : ℝ) : EReal))) + (precOf (x10 (ix2 b 0)) (x11 (ix2 b 0)) (x12 (ix2 b 0)) (x13 (ix2 b 0)) (x7 (ix2 b 0)) (x8 (ix2 b 0)) (x9 (ix2 b 0))) 2 2 * (((l.val : ℝ) : EReal) - ((x6 (ix2 b 0)) * ((127 : ℝ) : EReal))) * (((l.val : ℝ) : EReal) - ((x6 (ix2 b 0)) * ((127 : ℝ) : EReal))) + ((2 : ℝ) : EReal) * (precOf (x10 (ix2 b 0)) (x11 (ix2 b 0)) (x12 (ix2 b 0)) (x13 (ix2 b 0)) (x7 (ix2 b 0)) (x8 (ix2 b 0)) (x9 (ix2 b 0))) 1 2 * (lowRow ((x5 (ix2 b 0)) * ((127 : ℝ) : EReal)) + ((y.val : ℝ) : EReal) - ((x5 (ix2 b 0)) * ((127 : ℝ) : EReal))) * (((l.val : ℝ) : EReal) - ((x6 (ix2 b 0)) * ((127 : ℝ) : EReal))) := by
  simp only [runNext.sl.v283, runNext.sl.v275, runNext.sl.v273, runNext.sl.v269, runNext.sl.v268, runNext.sl.v267, runNext.sl.v274, runNext.sl.v272, runNext.sl.v271, runNext.sl.v270, runNext.sl.v282, runNext.sl.v280, runNext.sl.v279, runNext.sl.v278, runNext.sl.v277, runNext.sl.v79, runNext.sl.cst_30, runNext.sl.v281]
  pointwise
  simp only [v263_at, v126_at, v266_at, v134_at, v158_at, word_row, word_lane, mask4, mask1, ofBits_127, ofBits_119, ofBits_8, ofBits_4, ofBits_3, ofBits_2, ofBits_1, named_floor]
  try rfl

/-- Value `v292` of the step at the point `b` of the block. -/
theorem v292_at : runNext.sl.v292 arg5 arg6 arg7 arg8 arg9 arg10 arg11 arg12 arg13 x5 x6 x7 x8 x9 x10 x11 x12 x13 (ix3 b y l) = ((2 : ℝ) : EReal) * ((precOf (x10 (ix2 b 0)) (x11 (ix2 b 0)) (x12 (ix2 b 0)) (x13 (ix2 b 0)) (x7 (ix2 b 0)) (x8 (ix2 b 0)) (x9 (ix2 b 0))) 0 1 * (lowRow ((x5 (ix2 b 0)) * ((127 : ℝ) : EReal)) + ((y.val : ℝ) : EReal) - ((x5 (ix2 b 0)) * ((127 : ℝ) : EReal))) + (precOf (x10 (ix2 b 0)) (x11 (ix2 b 0)) (x12 (ix2 b 0)) (x13 (ix2 b 0)) (x7 (ix2 b 0)) (x8 (ix2 b 0)) (x9 (ix2 b 0))) 0 2 * (((l.val : ℝ) : EReal) - ((x6 (ix2 b 0)) * ((127 : ℝ) : EReal)))) := by
  simp only [runNext.sl.v292, runNext.sl.v291, runNext.sl.cst_30, runNext.sl.v290, runNext.sl.v288, runNext.sl.v285, runNext.sl.v284, runNext.sl.v289, runNext.sl.v287, runNext.sl.v286]
  pointwise
  simp only [v263_at, v142_at, v266_at, v150_at, word_row, word_lane, mask4, mask1, ofBits_127, ofBits_119, ofBits_8, ofBits_4, ofBits_3, ofBits_2, ofBits_1, named_floor]
  try rfl

end Cert.KernelIdeal.Hand

end
-- ==== Proof.KernelPatch.lean ====
module

public import proofs.«01_k».proof.Proof.KernelCells
public import Idealize.ShloMosaic.Lib.Writes

@[expose] public section

set_option maxRecDepth 16384

/-! # The patches a step stores, cell by cell -/

noncomputable section

namespace Cert.KernelIdeal.Hand

open Cert.KernelIdeal Cert.KernelIdeal.Gen Cert.Value
open Idealize.ShloMosaic Idealize.ShloMosaic.Tactic

variable (arg17 : Memref sig .tc .vmem S2x32x9x2x8x128 .f32) (arg4 arg5 arg6 arg7 arg8 arg9 arg10 arg11 arg12 arg13 arg14 arg15 : Memref sig .tc .vmem S32x1 .f32)
  (x4 x5 x6 x7 x8 x9 x10 x11 x12 x13 x14 x15 : Vec Ideal S32x1 .f32)

/-- The named factor that turns an exponential into a power of two. -/
theorem named_half : (Named.named (F := Ideal) (φ := .f32) κ "neg_half_log2e" 0xBF38AA3B#32) = (((-1 / 2) * (Real.log 2)⁻¹ : ℝ) : EReal) :=
  IdealRules.named_const.ideal_named_scalar κ _ _ _ rfl

/-- The named least exponent. -/
theorem named_bottom : (Named.named (F := Ideal) (φ := .f32) κ "exponent_floor" 0xC2F00000#32) = (⊥ : EReal) :=
  IdealRules.named_const.ideal_named_scalar κ _ _ _ rfl

/-- The weight of the point `b` of the block at a voxel's coordinates, from the block's columns. -/
def weightAt (b : Fin 32) (vz vy vx : EReal) : EReal :=
  weight (precOf (x10 (ix2 b 0)) (x11 (ix2 b 0)) (x12 (ix2 b 0)) (x13 (ix2 b 0)) (x7 (ix2 b 0)) (x8 (ix2 b 0)) (x9 (ix2 b 0))) ((x4 (ix2 b 0)) * ((127 : ℝ) : EReal)) ((x5 (ix2 b 0)) * ((127 : ℝ) : EReal)) ((x6 (ix2 b 0)) * ((127 : ℝ) : EReal)) (reach (x7 (ix2 b 0)) (x8 (ix2 b 0)) (x9 (ix2 b 0))) (x14 (ix2 b 0)) (x15 (ix2 b 0)) vz vy vx

/-- What a step's scratch holds: the weight of the point at the cell, times the point's amplitude of the channel. -/
def cell (y : S2x32x9x2x8x128.Idx) : EReal :=
  weightAt x4 x5 x6 x7 x8 x9 x10 x11 x12 x13 x14 x15 (y 1) (low ((x4 (ix2 (y 1) 0)) * ((127 : ℝ) : EReal)) + (((y 2).val : ℝ) : EReal))
      (lowRow ((x5 (ix2 (y 1) 0)) * ((127 : ℝ) : EReal)) + ((((y 3).val * 8 + (y 4).val : ℕ) : ℝ) : EReal)) (((y 5).val : ℝ) : EReal)
    * (if (y 0).val = 0 then x14 (ix2 (y 1) 0) else x15 (ix2 (y 1) 0))

/-- Where a store into the scratch puts a cell. -/
theorem piece_emb (o : Fin 6 → ℕ) (inb : ∀ a, o a + S1x32x1x2x8x128.size a ≤ S2x32x9x2x8x128.size a)
    (h1 : o 1 = 0) (h3 : o 3 = 0) (h4 : o 4 = 0) (h5 : o 5 = 0) (b : Fin 32) (p : Fin 2) (s : Fin 8) (l : Fin 128) :
    (Rect.unit (s := S2x32x9x2x8x128) o S1x32x1x2x8x128.size inb).emb (ix6 0 b 0 p s l : S1x32x1x2x8x128.Idx)
      = (ix6 ⟨o 0, inb 0⟩ b ⟨o 2, inb 2⟩ p s l : S2x32x9x2x8x128.Idx) := by
  funext a
  refine Fin.ext ?_
  fin_cases a <;> simp [Rect.unit, Rect.emb, ix6, h1, h3, h4, h5]

set_option maxHeartbeats 4000000 in
/-- Every store of a step writes the cells it should. -/
theorem pieces : ∀ p ∈ runNext.sl.H17_18 arg4 arg5 arg6 arg7 arg8 arg9 arg10 arg11 arg12 arg13 arg14 arg15 x4 x5 x6 x7 x8 x9 x10 x11 x12 x13 x14 x15, ∀ x : p.1.shape.Idx, p.2 x = cell x4 x5 x6 x7 x8 x9 x10 x11 x12 x13 x14 x15 (p.1.emb x) := by
  simp only [runNext.sl.H17_18, runNext.sl.H17_16, runNext.sl.H17_14, runNext.sl.H17_12, runNext.sl.H17_10, runNext.sl.H17_8, runNext.sl.H17_6, runNext.sl.H17_4, runNext.sl.H17_2, List.forall_mem_cons]
  refine ⟨?_, ?_, ?_, ?_, ?_, ?_, ?_, ?_, ?_, ?_, ?_, ?_, ?_, ?_, ?_, ?_, ?_, ?_, fun p hp => absurd hp List.not_mem_nil⟩
  all_goals
    intro x
    change S1x32x1x2x8x128.Idx at x
    idx_vars x
    obtain rfl := Subsingleton.elim x0 0
    obtain rfl := Subsingleton.elim x2 0
    refine Eq.trans ?_ (congrArg _ (piece_emb _ _ (by rfl) (by rfl) (by rfl) (by rfl) _ _ _ _).symm)
    simp only [runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.r_22, runNext.sl.r_23, runNext.sl.r_24, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, runNext.sl.cst_47, runNext.sl.v172, runNext.sl.cst_43]
    pointwise
    simp only [v283_at, v292_at, v175_at, v7_at, v118_at, v261_at, v165_at, r_at, r_1_at, v47_at, v50_at, mask4, named_half, named_bottom,
      ofBits_8, ofBits_7, ofBits_6, ofBits_5, ofBits_4, ofBits_3, ofBits_2, ofBits_1, Ideal.ofBits_zero_f32]
    simp [cell, weightAt, weight, quad, ix6, ax, -EReal.coe_mul]
    try rfl

/-- A scratch read after a step's stores holds the cells. -/
theorem patches_at (y : S2x32x9x2x8x128.Idx) : patches arg17 arg4 arg5 arg6 arg7 arg8 arg9 arg10 arg11 arg12 arg13 arg14 arg15 x4 x5 x6 x7 x8 x9 x10 x11 x12 x13 x14 x15 y = cell x4 x5 x6 x7 x8 x9 x10 x11 x12 x13 x14 x15 y := by
  refine View.read_writes_apply_of_pieces arg17.view arg17.view.junk (cell x4 x5 x6 x7 x8 x9 x10 x11 x12 x13 x14 x15) (runNext.sl.H17_18 arg4 arg5 arg6 arg7 arg8 arg9 arg10 arg11 arg12 arg13 arg14 arg15 x4 x5 x6 x7 x8 x9 x10 x11 x12 x13 x14 x15) (pieces arg4 arg5 arg6 arg7 arg8 arg9 arg10 arg11 arg12 arg13 arg14 arg15 x4 x5 x6 x7 x8 x9 x10 x11 x12 x13 x14 x15) y ?_
  obtain ⟨ch, b, j, p, s, l, rfl⟩ : ∃ (ch : Fin 2) (b : Fin 32) (j : Fin 9) (p : Fin 2) (s : Fin 8) (l : Fin 128), y = ix6 ch b j p s l :=
    ⟨y 0, y 1, y 2, y 3, y 4, y 5, by idx_vars y⟩
  have in_piece : ∀ (o : Fin 6 → ℕ) (inb : ∀ a, o a + S1x32x1x2x8x128.size a ≤ S2x32x9x2x8x128.size a)
      (h : ∀ a, o a = (![ch.val, 0, j.val, 0, 0, 0] : Fin 6 → ℕ) a),
      (ix6 ch b j p s l : S2x32x9x2x8x128.Idx) ∈ (Rect.unit (s := S2x32x9x2x8x128) o S1x32x1x2x8x128.size inb).set := by
    intro o inb h
    rw [Rect.mem_set_unit]
    intro a
    rw [h a]
    fin_cases a <;> simp [ix6] <;> omega
  simp only [runNext.sl.H17_18, runNext.sl.H17_16, runNext.sl.H17_14, runNext.sl.H17_12, runNext.sl.H17_10, runNext.sl.H17_8, runNext.sl.H17_6, runNext.sl.H17_4, runNext.sl.H17_2, List.mem_cons, exists_eq_or_imp]
  fin_cases ch <;> fin_cases j <;>
    first
    | exact Or.inl (in_piece _ _ (by decide))
    | (repeat' first | exact Or.inl (in_piece _ _ (by decide)) | apply Or.inr)

end Cert.KernelIdeal.Hand

end
-- ==== Proof.RefScalar.lean ====
module

public import proofs.«01_k».proof.Proof.Scalar

@[expose] public section

/-! # The reference's scalar steps

The names of this module are the steps by which the reference computes the weight and the place of one cell. -/

noncomputable section

namespace Cert.Value

open Idealize.ShloMosaic
open scoped Classical

/-- The reference's word for the coordinate `i` of a point's window on one axis. -/
def word (c : EReal) (i : Fin 9) : BitVec 32 :=
  IntOp.addi (IntOp.subi (FloatOps.fptosi (F := Ideal) (φ := .f32) 32 (Ideal.liftRound Int.floor c)) 4#32) (BitVec.ofNat 32 i.val)

/-- The word, as the number it is compared by. -/
def coord (c : EReal) (i : Fin 9) : EReal := (((word c i).toInt : ℝ) : EReal)

/-- The reference's validity on one axis: in the point's reach and in the volume. -/
def inside (c r v : EReal) : Prop :=
  max 0 (Ideal.liftRound Int.floor (c - r)) ≤ v ∧ v ≤ min ((127 : ℝ) : EReal) (Ideal.liftRound Int.ceil (c + r))

/-- The quadratic form of a matrix, as the reference evaluates it. -/
def quadRef (P : Fin 3 → Fin 3 → EReal) (rz ry rx : EReal) : EReal :=
  P 0 0 * rz * rz + P 1 1 * ry * ry + P 2 2 * rx * rx
    + ((2 : ℝ) : EReal) * (P 0 1 * rz * ry + P 0 2 * rz * rx + P 1 2 * ry * rx)

/-- A word clipped to the volume. -/
def clipWord (a : BitVec 32) : BitVec 32 := IntOp.minsi 127#32 (IntOp.maxsi 0#32 a)

/-- The reference's place of a cell in the flat volume. -/
def flatWord (a b c : BitVec 32) : BitVec 32 :=
  IntOp.addi (IntOp.addi (IntOp.muli (clipWord a) 16384#32) (IntOp.muli (clipWord b) 128#32)) (clipWord c)

/-- Six comparisons anded and made a float are the indicator of their conjunction. -/
theorem umask6 (p q r s t u : Prop) [Decidable p] [Decidable q] [Decidable r] [Decidable s] [Decidable t] [Decidable u] :
    (FloatOps.uitofp .f32 (IntOp.andi (IntOp.andi (IntOp.andi (BitVec.ofBool (decide p)) (BitVec.ofBool (decide q)))
      (IntOp.andi (BitVec.ofBool (decide r)) (BitVec.ofBool (decide s)))) (IntOp.andi (BitVec.ofBool (decide t)) (BitVec.ofBool (decide u)))) : Ideal .f32)
      = ind (((p ∧ q) ∧ (r ∧ s)) ∧ (t ∧ u)) := by
  show (((BitVec.toNat _ : ℕ) : ℝ) : EReal) = _
  unfold ind
  by_cases hp : p <;> by_cases hq : q <;> by_cases hr : r <;> by_cases hs : s <;> by_cases ht : t <;> by_cases hu : u <;>
    simp [hp, hq, hr, hs, ht, hu, IntOp.andi]

/-- Two comparisons anded and made a float are the indicator of their conjunction. -/
theorem umask2 (p q : Prop) [Decidable p] [Decidable q] :
    (FloatOps.uitofp .f32 (IntOp.andi (BitVec.ofBool (decide p)) (BitVec.ofBool (decide q))) : Ideal .f32) = ind (p ∧ q) := by
  show (((BitVec.toNat _ : ℕ) : ℝ) : EReal) = _
  unfold ind
  by_cases hp : p <;> by_cases hq : q <;> simp [hp, hq, IntOp.andi]

end Cert.Value

end
-- ==== Proof.Axis.lean ====
module

public import proofs.«01_k».proof.Proof.RefScalar

@[expose] public section

/-! # One axis of a point's window

Both programs test, on each axis, that a coordinate is one of the nine about the point's cell, in its reach and in the volume. The
theorems below say the tests are one, though one program compares floats and the other computes a clamped and wrapping word. -/

noncomputable section

namespace Cert.Value

open Idealize.ShloMosaic
open scoped Classical

/-- A word names a coordinate of the volume just where the center is a real number whose cell puts it there: no clamped or wrapped word
    lands in the volume. -/
theorem word_iff (c : EReal) (i : Fin 9) (v : ℤ) (h0 : 0 ≤ v) (h1 : v ≤ 127) :
    (word c i).toInt = v ↔ ∃ t : ℝ, c = (t : EReal) ∧ ⌊t⌋ - 4 + (i.val : ℤ) = v := by
  have key : ∀ K : ℤ, -2 ^ 31 ≤ K → K ≤ 2 ^ 31 - 1 →
      ((IntOp.addi (IntOp.subi (BitVec.ofInt 32 K) 4#32) (BitVec.ofNat 32 i.val)).toInt = v ↔ K - 4 + (i.val : ℤ) = v) := by
    intro K hK hK'
    have hi := i.isLt
    have e : IntOp.addi (IntOp.subi (BitVec.ofInt 32 K) 4#32) (BitVec.ofNat 32 i.val) = BitVec.ofInt 32 (K - 4 + i.val) := by
      rw [Int.sub_eq_add_neg, BitVec.ofInt_add, BitVec.ofInt_add]
      show BitVec.ofInt 32 K - 4#32 + _ = _
      rw [BitVec.sub_eq_add_neg]; rfl
    rw [e, BitVec.toInt_ofInt, Int.bmod_def]
    omega
  induction c using EReal.rec with
  | bot =>
    have e : word ⊥ i = IntOp.addi (IntOp.subi (BitVec.ofInt 32 (-2 ^ 31)) 4#32) (BitVec.ofNat 32 i.val) := rfl
    rw [e, key _ (by norm_num) (by norm_num)]
    constructor
    · intro h; have := i.isLt; omega
    · rintro ⟨t, h, -⟩; exact absurd h (by simp)
  | top =>
    have e : word ⊤ i = IntOp.addi (IntOp.subi (BitVec.ofInt 32 (2 ^ 31 - 1)) 4#32) (BitVec.ofNat 32 i.val) := rfl
    rw [e, key _ (by norm_num) (by norm_num)]
    constructor
    · intro h; have := i.isLt; omega
    · rintro ⟨t, h, -⟩; exact absurd h (by simp)
  | coe t =>
    have e : word (t : EReal) i = IntOp.addi (IntOp.subi (BitVec.ofInt 32 (max (-2 ^ 31) (min (2 ^ 31 - 1) ⌊t⌋))) 4#32) (BitVec.ofNat 32 i.val) := by
      unfold word
      congr 3
      show Ideal.fptosi 32 (((⌊t⌋ : ℝ)) : EReal) = _
      simp [Ideal.fptosi, Ideal.toIntClamped_coe]
    rw [e, key _ (by omega) (by omega)]
    have hi := i.isLt
    constructor
    · intro h; exact ⟨t, rfl, by omega⟩
    · rintro ⟨t', h, h'⟩
      obtain rfl := EReal.coe_injective h
      omega

/-- The kernel's test on an axis, at a coordinate of the volume. -/
theorem ax_iff (c r : EReal) (v : ℤ) :
    ax c r (((v : ℝ)) : EReal) ↔ ∃ t : ℝ, c = (t : EReal) ∧ (⌊t⌋ - 4 ≤ v ∧ v ≤ ⌊t⌋ + 4) ∧ inside c r (((v : ℝ)) : EReal) := by
  unfold ax inside base
  induction c using EReal.rec with
  | bot =>
    constructor
    · rintro ⟨⟨⟨-, h⟩, -⟩, -⟩
      have e : Ideal.liftRound Int.floor ⊥ = (⊥ : EReal) := rfl
      rw [e] at h
      simp at h
    · rintro ⟨t, h, -⟩; exact absurd h (by simp)
  | top =>
    constructor
    · rintro ⟨⟨⟨h, -⟩, -⟩, -⟩
      have e : Ideal.liftRound Int.floor ⊤ = (⊤ : EReal) := rfl
      rw [e] at h
      simp at h
    · rintro ⟨t, h, -⟩; exact absurd h (by simp)
  | coe t =>
    have e : Ideal.liftRound Int.floor (t : EReal) = (((⌊t⌋ : ℤ) : ℝ) : EReal) := rfl
    rw [e, ← EReal.coe_sub, ← EReal.coe_add, EReal.coe_le_coe_iff, EReal.coe_le_coe_iff]
    have e1 : ((⌊t⌋ : ℤ) : ℝ) - 4 ≤ (v : ℝ) ↔ ⌊t⌋ - 4 ≤ v := by exact_mod_cast Iff.rfl
    have e2 : (v : ℝ) ≤ ((⌊t⌋ : ℤ) : ℝ) - 4 + 8 ↔ v ≤ ⌊t⌋ + 4 := by
      rw [show ((⌊t⌋ : ℤ) : ℝ) - 4 + 8 = ((⌊t⌋ + 4 : ℤ) : ℝ) by push_cast; ring]; exact_mod_cast Iff.rfl
    rw [e1, e2]
    constructor
    · rintro ⟨⟨⟨h, h'⟩, h''⟩, h'''⟩; exact ⟨t, rfl, ⟨h, h'⟩, h'', h'''⟩
    · rintro ⟨t', ht, ⟨h, h'⟩, h'', h'''⟩
      obtain rfl := EReal.coe_injective ht
      exact ⟨⟨⟨h, h'⟩, h''⟩, h'''⟩

/-- A coordinate in reach and in the volume is a coordinate of the volume. -/
theorem inside_range {c r : EReal} {v : ℤ} (h : inside c r (((v : ℝ)) : EReal)) : 0 ≤ v ∧ v ≤ 127 := by
  obtain ⟨h0, h1⟩ := h
  have h0' : ((0 : ℝ) : EReal) ≤ ((v : ℝ) : EReal) := le_trans (le_max_left _ _) h0
  have h1' : ((v : ℝ) : EReal) ≤ ((127 : ℝ) : EReal) := le_trans h1 (min_le_left _ _)
  rw [EReal.coe_le_coe_iff] at h0' h1'
  exact ⟨by exact_mod_cast h0', by exact_mod_cast h1'⟩

/-- The two programs' tests on an axis are one. -/
theorem ax_iff_word (c r : EReal) (v : ℤ) :
    ax c r ((v : ℝ) : EReal) ↔ ∃ i : Fin 9, (word c i).toInt = v ∧ inside c r ((v : ℝ) : EReal) := by
  constructor
  · intro h
    obtain ⟨t, ht, ⟨h1, h2⟩, h3⟩ := (ax_iff c r v).mp h
    have hr := inside_range h3
    refine ⟨⟨(v - (⌊t⌋ - 4)).toNat, by omega⟩, (word_iff c _ v hr.1 hr.2).mpr ⟨t, ht, ?_⟩, h3⟩
    simp only
    omega
  · rintro ⟨i, hi, h3⟩
    have hr := inside_range h3
    obtain ⟨t, ht, h⟩ := (word_iff c i v hr.1 hr.2).mp hi
    have := i.isLt
    exact (ax_iff c r v).mpr ⟨t, ht, ⟨by omega, by omega⟩, h3⟩

/-- The nine words of a window are distinct. -/
theorem word_inj (c : EReal) {i j : Fin 9} (h : word c i = word c j) : i = j := by
  have hi := i.isLt
  have hj := j.isLt
  unfold word IntOp.addi at h
  have h' := (BitVec.add_right_inj _).mp h
  have := congrArg BitVec.toNat h'
  simp only [BitVec.toNat_ofNat] at this
  exact Fin.ext (by omega)

/-- The coordinates a kernel test accepts are in the volume. -/
theorem ax_range {c r v : EReal} (h : ax c r v) : 0 ≤ v ∧ v ≤ ((127 : ℝ) : EReal) :=
  ⟨le_trans (le_max_left _ _) h.1.2, le_trans h.2 (min_le_left _ _)⟩

/-- A clipped word. -/
theorem clipWord_toInt (a : BitVec 32) : (clipWord a).toInt = min 127 (max 0 a.toInt) := by
  unfold clipWord IntOp.minsi IntOp.maxsi
  split_ifs with h1 h2 h2 <;> simp only [BitVec.slt, BitVec.sle, decide_eq_true_eq] at * <;> simp at * <;> omega

/-- The number a word is clipped to. -/
def clipInt (a : BitVec 32) : ℤ := min 127 (max 0 a.toInt)

/-- The reference's place of a cell, as a number. -/
theorem flatWord_toInt (a b c : BitVec 32) :
    (flatWord a b c).toInt = clipInt a * 16384 + clipInt b * 128 + clipInt c := by
  have ha := clipWord_toInt a
  have hb := clipWord_toInt b
  have hc := clipWord_toInt c
  unfold clipInt flatWord IntOp.addi IntOp.muli
  generalize clipWord a = a' at *
  generalize clipWord b = b' at *
  generalize clipWord c = c' at *
  simp only [BitVec.toInt_add, BitVec.toInt_mul, BitVec.toInt_ofNat', ha, hb, hc]
  norm_num [Int.bmod_def]
  omega

end Cert.Value

end
-- ==== Proof.PointEq.lean ====
module

public import proofs.«01_k».proof.Proof.Axis

@[expose] public section

/-! # One point's weight: the kernel's and the reference's are equal

Where the quaternion's norm is zero or no less than `micro`, normalizing it a second time changes nothing, so the two
precision matrices are one matrix of real numbers. -/

noncomputable section

namespace Cert.Value

open Idealize.ShloMosaic
open scoped Classical

/-- The least norm, as a real number. -/
abbrev microR : ℝ := 8796093 / 8796093022208

/-- The maximum of two real numbers. -/
theorem max_coe (x y : ℝ) : max (x : EReal) (y : EReal) = ((max x y : ℝ) : EReal) :=
  (EReal.coe_strictMono.monotone.map_max).symm

/-- The quotient of two real numbers, the second not zero. -/
theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- A quotient by infinity is zero. -/
theorem div_top (x : EReal) : Ideal.div x ⊤ = 0 := by
  unfold Ideal.div
  rw [if_neg (by simp), EReal.inv_top, mul_zero]

/-- A square is not negative. -/
theorem square_nonneg (x : EReal) : 0 ≤ x * x := by
  induction x with
  | bot => simp
  | top => simp
  | coe r => rw [← EReal.coe_mul]; exact_mod_cast mul_self_nonneg r

/-- A square that is not infinite is of a real number. -/
theorem real_of_square {x : EReal} (h : x * x ≠ ⊤) : ∃ r : ℝ, x = r := by
  induction x with
  | bot => simp at h
  | top => simp at h
  | coe r => exact ⟨r, rfl⟩

/-- If a sum of two numbers that are not negative is not infinite, neither is. -/
theorem parts_ne_top {a b : EReal} (ha : 0 ≤ a) (hb : 0 ≤ b) (h : a + b ≠ ⊤) : a ≠ ⊤ ∧ b ≠ ⊤ := by
  constructor
  · rintro rfl
    exact h (EReal.top_add_of_ne_bot (fun e => by simp [e] at hb))
  · rintro rfl
    exact h (EReal.add_top_of_ne_bot (fun e => by simp [e] at ha))

/-- The root of a real number that is not negative. -/
theorem sqrt_real {r : ℝ} (h : 0 ≤ r) : Ideal.sqrt (r : EReal) = ((Real.sqrt r : ℝ) : EReal) := by
  rw [Ideal.sqrt_coe, if_neg (not_lt.mpr h)]

/-- A sum of four squares is not negative. -/
theorem four_squares (a b c d : ℝ) : 0 ≤ a * a + b * b + c * c + d * d := by
  linarith [mul_self_nonneg a, mul_self_nonneg b, mul_self_nonneg c, mul_self_nonneg d]

/-- A quaternion of norm zero or no less than `micro`, normalized, is real, and is zero or has norm one. -/
theorem normalized (w x y z : EReal)
    (h : Ideal.sqrt (w * w + x * x + y * y + z * z) = 0 ∨ micro ≤ Ideal.sqrt (w * w + x * x + y * y + z * z)) :
    ∃ a b c d : ℝ, (Ideal.div w (qnorm w x y z) = a ∧ Ideal.div x (qnorm w x y z) = b ∧ Ideal.div y (qnorm w x y z) = c ∧ Ideal.div z (qnorm w x y z) = d)
      ∧ (a * a + b * b + c * c + d * d = 1 ∨ (a = 0 ∧ b = 0 ∧ c = 0 ∧ d = 0)) := by
  by_cases hS : w * w + x * x + y * y + z * z = ⊤
  · have hN : qnorm w x y z = ⊤ := by
      unfold qnorm; rw [hS, Ideal.sqrt_top]; simp
    exact ⟨0, 0, 0, 0, by simp [hN, div_top], Or.inr ⟨rfl, rfl, rfl, rfl⟩⟩
  · have n2 := add_nonneg (square_nonneg w) (square_nonneg x)
    have n3 := add_nonneg n2 (square_nonneg y)
    obtain ⟨h3, hz⟩ := parts_ne_top n3 (square_nonneg z) hS
    obtain ⟨h2, hy⟩ := parts_ne_top n2 (square_nonneg y) h3
    obtain ⟨hw, hx⟩ := parts_ne_top (square_nonneg w) (square_nonneg x) h2
    obtain ⟨a, rfl⟩ := real_of_square hw
    obtain ⟨b, rfl⟩ := real_of_square hx
    obtain ⟨c, rfl⟩ := real_of_square hy
    obtain ⟨d, rfl⟩ := real_of_square hz
    have e : (a : EReal) * a + b * b + c * c + d * d = ((a * a + b * b + c * c + d * d : ℝ) : EReal) := by push_cast; rfl
    have hs := four_squares a b c d
    have eN : qnorm a b c d = ((max microR (Real.sqrt (a * a + b * b + c * c + d * d)) : ℝ) : EReal) := by
      unfold qnorm; rw [e, sqrt_real hs, max_coe]
    have hpos : max microR (Real.sqrt (a * a + b * b + c * c + d * d)) ≠ 0 :=
      (lt_of_lt_of_le (by norm_num) (le_max_left _ _)).ne'
    rw [eN, div_coe hpos, div_coe hpos, div_coe hpos, div_coe hpos]
    refine ⟨_, _, _, _, ⟨rfl, rfl, rfl, rfl⟩, ?_⟩
    rw [e, sqrt_real hs] at h
    rcases h with h | h
    · have h0 : a * a + b * b + c * c + d * d = 0 := (Real.sqrt_eq_zero hs).mp (by exact_mod_cast h)
      have ha : a = 0 := by nlinarith [mul_self_nonneg a, mul_self_nonneg b, mul_self_nonneg c, mul_self_nonneg d]
      have hb : b = 0 := by nlinarith [mul_self_nonneg a, mul_self_nonneg b, mul_self_nonneg c, mul_self_nonneg d]
      have hc : c = 0 := by nlinarith [mul_self_nonneg a, mul_self_nonneg b, mul_self_nonneg c, mul_self_nonneg d]
      have hd : d = 0 := by nlinarith [mul_self_nonneg a, mul_self_nonneg b, mul_self_nonneg c, mul_self_nonneg d]
      right; simp [ha, hb, hc, hd]
    · have h' : microR ≤ Real.sqrt (a * a + b * b + c * c + d * d) := by exact_mod_cast h
      left
      rw [max_eq_right h']
      have hp : 0 < Real.sqrt (a * a + b * b + c * c + d * d) := lt_of_lt_of_le (by norm_num) h'
      have hq := Real.mul_self_sqrt hs
      generalize Real.sqrt (a * a + b * b + c * c + d * d) = N at hp hq
      rw [div_mul_div_comm, div_mul_div_comm, div_mul_div_comm, div_mul_div_comm, ← add_div, ← add_div, ← add_div, hq, div_self]
      rw [← hq]; exact (mul_pos hp hp).ne'

/-- Normalizing a second time changes nothing. -/
theorem normalized_again {a b c d : ℝ} (h : a * a + b * b + c * c + d * d = 1 ∨ (a = 0 ∧ b = 0 ∧ c = 0 ∧ d = 0))
    {e : ℝ} (he : e = a ∨ e = b ∨ e = c ∨ e = d) : Ideal.div (e : EReal) (qnorm a b c d) = e := by
  have hs := four_squares a b c d
  have e0 : (a : EReal) * a + b * b + c * c + d * d = ((a * a + b * b + c * c + d * d : ℝ) : EReal) := by push_cast; rfl
  have eN : qnorm a b c d = ((max microR (Real.sqrt (a * a + b * b + c * c + d * d)) : ℝ) : EReal) := by
    unfold qnorm; rw [e0, sqrt_real hs, max_coe]
  rw [eN, div_coe (lt_of_lt_of_le (by norm_num) (le_max_left _ _)).ne']
  rcases h with h | ⟨rfl, rfl, rfl, rfl⟩
  · rw [h, Real.sqrt_one, max_eq_right (by norm_num), div_one]
  · rcases he with rfl | rfl | rfl | rfl <;> simp

/-- The exponential of the logarithm of a scale that is no less than `milli`. -/
theorem exp_log_scale (s : EReal) : Ideal.exp (Ideal.log (max milli s)) = max milli s := by
  induction s with
  | bot =>
    rw [max_eq_left bot_le, Ideal.log_coe, if_neg (by norm_num), Ideal.exp_coe, Real.exp_log (by norm_num)]
  | top => rw [max_eq_right le_top]; rfl
  | coe r =>
    have hp : 0 < max (8589935 / 8589934592 : ℝ) r := lt_of_lt_of_le (by norm_num) (le_max_left _ _)
    rw [max_coe, Ideal.log_coe, if_neg (not_le.mpr hp), Ideal.exp_coe, Real.exp_log hp]

/-- A second, lower floor under a scale changes nothing. -/
theorem floor_again (s : EReal) : max ((13743895 / 137438953472 : ℝ) : EReal) (max milli s) = max milli s :=
  max_eq_right (le_trans (by exact_mod_cast (by norm_num : (13743895 / 137438953472 : ℝ) ≤ 8589935 / 8589934592)) (le_max_left _ _))

/-- The inverse square of a scale is real. -/
theorem inv_real (s : EReal) : ∃ d : ℝ, inv s = d := by
  unfold inv
  induction s with
  | bot =>
    rw [max_eq_left bot_le, ← EReal.coe_mul, div_coe (by norm_num)]
    exact ⟨_, rfl⟩
  | top =>
    rw [max_eq_right le_top, EReal.top_mul_top, div_top]
    exact ⟨0, rfl⟩
  | coe r =>
    have hp : 0 < max (8589935 / 8589934592 : ℝ) r := lt_of_lt_of_le (by norm_num) (le_max_left _ _)
    rw [max_coe, ← EReal.coe_mul, div_coe (mul_pos hp hp).ne']
    exact ⟨_, rfl⟩

/-- A rotation matrix of real numbers is real. -/
theorem rot_real (a b c d : ℝ) : ∃ R : Fin 3 → Fin 3 → ℝ, ∀ i k, rot a b c d i k = R i k := by
  refine ⟨![![a * a + b * b - c * c - d * d, 2 * (b * c - a * d), 2 * (b * d + a * c)],
    ![2 * (b * c + a * d), a * a - b * b + c * c - d * d, 2 * (c * d - a * b)],
    ![2 * (b * d - a * c), 2 * (c * d + a * b), a * a - b * b - c * c + d * d]], fun i k => ?_⟩
  fin_cases i <;> fin_cases k <;> simp [rot, EReal.coe_mul, EReal.coe_add, EReal.coe_sub]

/-- The product `R diag(d) R^T` of real numbers, summed as the reference sums it. -/
theorem prec_sum {R : Fin 3 → Fin 3 → EReal} {Q : Fin 3 → Fin 3 → ℝ} (hR : ∀ i k, R i k = Q i k) {d : Fin 3 → EReal} {e : Fin 3 → ℝ}
    (hd : ∀ x, d x = e x) (i k : Fin 3) :
    (∑ x, R i x * (R k x * d x)) = prec R (d 0) (d 1) (d 2) i k ∧ prec R (d 0) (d 1) (d 2) i k = ((Q i 0 * Q k 0 * e 0 + Q i 1 * Q k 1 * e 1 + Q i 2 * Q k 2 * e 2 : ℝ) : EReal) := by
  unfold prec
  simp only [Fin.sum_univ_three, hR, hd, ← EReal.coe_mul, ← EReal.coe_add, EReal.coe_eq_coe_iff, and_true]
  ring

/-- An amplitude passes the reference's test where it passes the kernel's. -/
theorem loud_iff (a b : EReal) : micro ≤ Ideal.sqrt (a * a + b * b) ↔ loud a b := by
  unfold loud
  have hn := add_nonneg (square_nonneg a) (square_nonneg b)
  generalize a * a + b * b = s at *
  induction s with
  | bot => simp at hn
  | top => rw [Ideal.sqrt_top]; simp
  | coe r =>
    have hr : 0 ≤ r := by exact_mod_cast hn
    rw [sqrt_real hr, EReal.coe_le_coe_iff, EReal.coe_le_coe_iff, Real.le_sqrt (by norm_num) hr]
    norm_num

/-- The reach is no less than `milli`. -/
theorem reach_ge (s0 s1 s2 : EReal) : milli ≤ reach s0 s1 s2 := by
  have h : milli ≤ max (max (max milli s0) (max milli s1)) (max milli s2) := le_max_of_le_left (le_max_of_le_left (le_max_left _ _))
  unfold reach
  generalize max (max (max milli s0) (max milli s1)) (max milli s2) = m at *
  induction m with
  | bot => simp at h
  | top => rw [EReal.top_mul_coe_of_pos (by norm_num)]; exact le_top
  | coe r =>
    have hr : (8589935 / 8589934592 : ℝ) ≤ r := by exact_mod_cast h
    rw [← EReal.coe_mul, EReal.coe_le_coe_iff]
    nlinarith

/-- The exponentials of the two programs agree on a real exponent. -/
theorem exp_eq (q : ℝ) : Ideal.exp2 ((q : EReal) * (((-1 / 2) * (Real.log 2)⁻¹ : ℝ) : EReal)) = Ideal.exp (((-1 / 2 : ℝ) : EReal) * (q : EReal)) := by
  rw [← EReal.coe_mul, ← EReal.coe_mul, Ideal.exp2_coe, Ideal.exp_coe, EReal.coe_eq_coe_iff]
  show (2 : ℝ) ^ (q * ((-1 / 2) * (Real.log 2)⁻¹)) = _
  rw [Real.rpow_def_of_pos (by norm_num)]
  congr 1
  have : Real.log 2 ≠ 0 := (Real.log_pos (by norm_num)).ne'
  field_simp

/-- A product of indicators is the indicator of the conjunction. -/
theorem ind_and (p q : Prop) : ind p * ind q = ind (p ∧ q) := by
  unfold ind
  by_cases p <;> by_cases q <;> simp [*]

/-- The kernel's weight of a point at a voxel is the reference's, where its precision matrix is real. -/
theorem weight_eq {P : Fin 3 → Fin 3 → EReal} {p : Fin 3 → Fin 3 → ℝ} (hP : ∀ i k, P i k = p i k) (cz cy cx r a b : EReal) (z y x : ℤ) :
    weight P cz cy cx r a b ((z : ℝ) : EReal) ((y : ℝ) : EReal) ((x : ℝ) : EReal)
      = if (ax cz r ((z : ℝ) : EReal) ∧ ax cy r ((y : ℝ) : EReal) ∧ ax cx r ((x : ℝ) : EReal)) ∧ loud a b
        then Ideal.exp (((-1 / 2 : ℝ) : EReal) * quadRef P (((z : ℝ) : EReal) - cz) (((y : ℝ) : EReal) - cy) (((x : ℝ) : EReal) - cx)) else 0 := by
  unfold weight
  by_cases h : (ax cz r ((z : ℝ) : EReal) ∧ ax cy r ((y : ℝ) : EReal) ∧ ax cx r ((x : ℝ) : EReal)) ∧ loud a b
  · rw [if_pos h]
    obtain ⟨⟨hz, hy, hx⟩, hl⟩ := h
    simp only [ind, if_pos hz, if_pos hy, if_pos hx, if_pos hl, mul_one, max_bot_right]
    obtain ⟨tz, rfl, -⟩ := (ax_iff _ _ _).mp hz
    obtain ⟨ty, rfl, -⟩ := (ax_iff _ _ _).mp hy
    obtain ⟨tx, rfl, -⟩ := (ax_iff _ _ _).mp hx
    unfold quad quadRef
    simp only [hP, ← EReal.coe_sub, ← EReal.coe_mul, ← EReal.coe_add]
    rw [EReal.coe_mul, exp_eq, ← EReal.coe_mul]
    congr 3
    ring
  · rw [if_neg h]
    have : ind (ax cy r ((y : ℝ) : EReal)) * ind (ax cx r ((x : ℝ) : EReal)) * ind (loud a b) * ind (ax cz r ((z : ℝ) : EReal)) = 0 := by
      rw [ind_and, ind_and, ind_and]
      exact if_neg fun hm => h ⟨⟨hm.2, hm.1.1.1, hm.1.1.2⟩, hm.1.2⟩
    rw [this, mul_zero]

end Cert.Value

end
-- ==== Proof.Placed.lean ====
module

public import proofs.«01_k».proof.Proof.KernelIdealBlocks
public import proofs.«01_k».proof.Proof.PointEq

@[expose] public section

set_option maxRecDepth 16384

/-! # Where the kernel puts a point's patch

A patch is nine planes by sixteen rows, placed by words; its weights are computed at coordinates in floats. Where the
point reaches the volume at all, the words and the floats name one place, and the patch holds every voxel of the
point's window; elsewhere every weight is zero. -/

noncomputable section

namespace Cert.Value

open Idealize.ShloMosaic Cert.KernelIdeal.Hand
open scoped Classical

/-- The word the kernel takes for a point's cell on one axis. -/
def cellWord (c : EReal) : BitVec 32 := FloatOps.fptosi (F := Ideal) (φ := .f32) 32 (Ideal.liftRound Int.floor c)

/-- A point that passes the test somewhere is at a real coordinate near the volume. -/
theorem ax_good {c r v : EReal} (h : ax c r v) : ∃ t : ℝ, c = t ∧ -4 ≤ ⌊t⌋ ∧ ⌊t⌋ ≤ 131 := by
  obtain ⟨h0, h1⟩ := ax_range h
  obtain ⟨⟨⟨hl, hu⟩, -⟩, -⟩ := h
  unfold base at hl hu
  induction v with
  | bot => simp at h0
  | top => exact absurd h1 (by simp)
  | coe v =>
    have v0 : 0 ≤ v := by exact_mod_cast h0
    have v1 : v ≤ 127 := by exact_mod_cast h1
    induction c using EReal.rec with
    | bot =>
      rw [Ideal.liftRound_bot] at hu
      simp at hu
    | top =>
      rw [Ideal.liftRound_top] at hl
      simp at hl
    | coe t =>
      rw [Ideal.liftRound_coe, ← EReal.coe_sub] at hl hu
      rw [← EReal.coe_add, EReal.coe_le_coe_iff] at hu
      rw [EReal.coe_le_coe_iff] at hl
      refine ⟨t, rfl, ?_, ?_⟩
      · have : (-4 : ℝ) ≤ (⌊t⌋ : ℝ) := by linarith
        exact_mod_cast this
      · have : (⌊t⌋ : ℝ) ≤ 131 := by linarith
        exact_mod_cast this

/-- The start of a window near the volume, as a word. -/
theorem wStart_near : ∀ k : Fin 136, (wStart (BitVec.ofInt 32 ((k.val : ℤ) - 4))).toNat = min 119 (k.val - 8) := by decide +kernel

/-- The start of a patch on one axis, where the point is near the volume. -/
theorem start_word {t : ℝ} (h0 : -4 ≤ ⌊t⌋) (h1 : ⌊t⌋ ≤ 131) :
    ((wStart (cellWord t)).toNat : ℤ) = min 119 (max 0 (⌊t⌋ - 4)) := by
  have e : cellWord (t : EReal) = BitVec.ofInt 32 (max (-2 ^ 31) (min (2 ^ 31 - 1) ⌊t⌋)) := by
    show Ideal.fptosi 32 (((⌊t⌋ : ℝ)) : EReal) = _
    simp [Ideal.fptosi, Ideal.toIntClamped_coe]
  have e' : max (-2 ^ 31) (min (2 ^ 31 - 1) ⌊t⌋) = (((⌊t⌋ + 4).toNat : ℕ) : ℤ) - 4 := by omega
  rw [e, e', wStart_near ⟨(⌊t⌋ + 4).toNat, by omega⟩]
  show ((min 119 ((⌊t⌋ + 4).toNat - 8) : ℕ) : ℤ) = _
  omega

/-- The first plane of a patch in floats is its word's. -/
theorem low_word {t : ℝ} (h0 : -4 ≤ ⌊t⌋) (h1 : ⌊t⌋ ≤ 131) : low (t : EReal) = (((wStart (cellWord t)).toNat : ℝ) : EReal) := by
  have e := start_word h0 h1
  have e' : ((wStart (cellWord t)).toNat : ℝ) = min 119 (max 0 ((⌊t⌋ : ℝ) - 4)) := by exact_mod_cast congrArg (Int.cast : ℤ → ℝ) e
  unfold low base
  rw [e', Ideal.liftRound_coe, ← EReal.coe_sub, ← EReal.coe_zero, max_coe]
  exact (EReal.coe_strictMono.monotone.map_min).symm

/-- The first row of a patch in floats is its word's. -/
theorem lowRow_word {t : ℝ} (h0 : -4 ≤ ⌊t⌋) (h1 : ⌊t⌋ ≤ 131) :
    lowRow (t : EReal) = ((((wStart (cellWord t)).toNat / 8 * 8 : ℕ) : ℝ) : EReal) := by
  unfold lowRow
  rw [low_word h0 h1, div_coe (by norm_num), Ideal.liftRound_coe, ← EReal.coe_mul]
  congr 1
  have : ⌊((wStart (cellWord (t : EReal))).toNat : ℝ) / 8⌋ = (((wStart (cellWord (t : EReal))).toNat / 8 : ℕ) : ℤ) := by
    generalize (wStart (cellWord (t : EReal))).toNat = n
    have l : ((n / 8 * 8 : ℕ) : ℝ) ≤ (n : ℝ) := by exact_mod_cast Nat.div_mul_le_self n 8
    have u : (n : ℝ) < ((n / 8 * 8 + 8 : ℕ) : ℝ) := by exact_mod_cast (by omega : n < n / 8 * 8 + 8)
    rw [Int.floor_eq_iff]
    push_cast at l u
    rw [Int.cast_natCast]
    constructor <;> linarith
  rw [this]
  push_cast
  rfl

/-- What the kernel adds at one voxel for a point is the point's weight there. -/
theorem placed (P : Fin 3 → Fin 3 → EReal) (cz cy cx r a b : EReal) (z g s l : ℕ) (hs : s < 8) :
    (if ((wStart (cellWord cz)).toNat ≤ z ∧ z < (wStart (cellWord cz)).toNat + 9)
        ∧ ((wRow (wStart (cellWord cy))).toNat ≤ g ∧ g < (wRow (wStart (cellWord cy))).toNat + 2)
      then weight P cz cy cx r a b (low cz + (((z - (wStart (cellWord cz)).toNat : ℕ) : ℝ) : EReal))
        (lowRow cy + ((((g - (wRow (wStart (cellWord cy))).toNat) * 8 + s : ℕ) : ℝ) : EReal)) ((l : ℝ) : EReal)
      else 0) = weight P cz cy cx r a b (((z : ℤ) : ℝ) : EReal) ((((g * 8 + s : ℕ) : ℤ) : ℝ) : EReal) (((l : ℤ) : ℝ) : EReal) := by
  have zero_z : ∀ vz vy vx, ¬ ax cz r vz → weight P cz cy cx r a b vz vy vx = 0 := fun vz vy vx h => by
    unfold weight; rw [show ind (ax cz r vz) = 0 from if_neg h, mul_zero, mul_zero]
  have zero_y : ∀ vz vy vx, ¬ ax cy r vy → weight P cz cy cx r a b vz vy vx = 0 := fun vz vy vx h => by
    unfold weight; rw [show ind (ax cy r vy) = 0 from if_neg h, zero_mul, zero_mul, zero_mul, mul_zero]
  have hr : (wRow (wStart (cellWord cy))).toNat = (wStart (cellWord cy)).toNat / 8 := by
    have h := wStart_le (cellWord cy)
    rw [wRow_eq _ h, BitVec.toNat_ofNat]; omega
  by_cases gz : ∃ t : ℝ, cz = t ∧ -4 ≤ ⌊t⌋ ∧ ⌊t⌋ ≤ 131
  · by_cases gy : ∃ t : ℝ, cy = t ∧ -4 ≤ ⌊t⌋ ∧ ⌊t⌋ ≤ 131
    · obtain ⟨t, rfl, t0, t1⟩ := gz
      obtain ⟨u, rfl, u0, u1⟩ := gy
      have et := start_word t0 t1
      have eu := start_word u0 u1
      rw [hr, low_word t0 t1, lowRow_word u0 u1]
      by_cases hin : ((wStart (cellWord (t : EReal))).toNat ≤ z ∧ z < (wStart (cellWord (t : EReal))).toNat + 9)
          ∧ ((wStart (cellWord (u : EReal))).toNat / 8 ≤ g ∧ g < (wStart (cellWord (u : EReal))).toNat / 8 + 2)
      · rw [if_pos hin, ← EReal.coe_add, ← EReal.coe_add, ← Nat.cast_add, ← Nat.cast_add,
          show (wStart (cellWord (t : EReal))).toNat + (z - (wStart (cellWord (t : EReal))).toNat) = z by omega,
          show (wStart (cellWord (u : EReal))).toNat / 8 * 8 + ((g - (wStart (cellWord (u : EReal))).toNat / 8) * 8 + s) = g * 8 + s by omega,
          Int.cast_natCast, Int.cast_natCast, Int.cast_natCast]
      · rw [if_neg hin]
        by_cases hz : ax (t : EReal) r (((z : ℤ) : ℝ) : EReal)
        · by_cases hy : ax (u : EReal) r ((((g * 8 + s : ℕ) : ℤ) : ℝ) : EReal)
          · exfalso
            obtain ⟨t', ht, ⟨z0, z1⟩, iz⟩ := (ax_iff _ _ _).mp hz
            obtain ⟨u', hu, ⟨y0, y1⟩, iy⟩ := (ax_iff _ _ _).mp hy
            obtain rfl := EReal.coe_injective ht
            obtain rfl := EReal.coe_injective hu
            have rz := inside_range iz
            have ry := inside_range iy
            push_cast at y0 y1 ry
            exact hin (by omega)
          · exact (zero_y _ _ _ hy).symm
        · exact (zero_z _ _ _ hz).symm
    · have h : ∀ v, ¬ ax cy r v := fun v hv => gy (ax_good hv)
      rw [zero_y _ _ _ (h _), zero_y _ _ _ (h _), ite_self]
  · have h : ∀ v, ¬ ax cz r v := fun v hv => gz (ax_good hv)
    rw [zero_z _ _ _ (h _), zero_z _ _ _ (h _), ite_self]

end Cert.Value

end
-- ==== Proof.KernelSum.lean ====
module

public import proofs.«01_k».proof.Proof.KernelIdealFrame
public import proofs.«01_k».proof.Proof.KernelPatch
public import proofs.«01_k».proof.Proof.Placed

@[expose] public section

set_option maxRecDepth 16384

/-! # The kernel's volume, read at one voxel, as a sum over the points -/

noncomputable section

namespace Cert.KernelIdeal.Hand

open Cert.KernelIdeal Cert.KernelIdeal.Gen Cert.Value
open Idealize.ShloMosaic Idealize.ShloMosaic.TcCoe Idealize.ShloMosaic.StableHlo Idealize.ShloMosaic.Tactic

variable (m : (ℓ : Loc nD τ sig) → Buf (Elt Ideal) ℓ) (c : Dev nD)

/-- A center. -/
def kcen (n : Fin 16384) (k : Fin 3) : EReal := m ((c : Thread nD τ).loc main_arg0) (ix2 n k)
/-- A scale. -/
def ksca (n : Fin 16384) (k : Fin 3) : EReal := m ((c : Thread nD τ).loc main_arg1) (ix2 n k)
/-- An entry of a quaternion. -/
def kqua (n : Fin 16384) (k : Fin 4) : EReal := m ((c : Thread nD τ).loc main_arg2) (ix2 n k)
/-- An amplitude. -/
def kamp (n : Fin 16384) (k : Fin 2) : EReal := m ((c : Thread nD τ).loc main_arg3) (ix2 n k)

/-- A point's weight at a voxel. -/
def kw (n : Fin 16384) (z y x : EReal) : EReal :=
  weight (precOf (kqua m c n 0) (kqua m c n 1) (kqua m c n 2) (kqua m c n 3) (ksca m c n 0) (ksca m c n 1) (ksca m c n 2))
    (kcen m c n 0 * ((127 : ℝ) : EReal)) (kcen m c n 1 * ((127 : ℝ) : EReal)) (kcen m c n 2 * ((127 : ℝ) : EReal))
    (reach (ksca m c n 0) (ksca m c n 1) (ksca m c n 2)) (kamp m c n 0) (kamp m c n 1) z y x

/-- What a point adds at a voxel of a channel. -/
def term (ch : Fin 2) (z : Fin 128) (g : Fin 16) (s : Fin 8) (l : Fin 128) (n : Fin 16384) : EReal :=
  kw m c n (((z.val : ℤ) : ℝ) : EReal) ((((g.val * 8 + s.val : ℕ) : ℤ) : ℝ) : EReal) (((l.val : ℤ) : ℝ) : EReal) * kamp m c n ch

/-- The cell of a center, floored. -/
theorem floorAt_eq (n : Fin 16384) (k : Fin 3) : (FloatOps.fptosi 32 (floorAt m c n k) : BitVec 32) = cellWord (kcen m c n k * ((127 : ℝ) : EReal)) := by
  unfold floorAt cellWord kcen
  rw [← ofBits_127]
  rfl

/-- The weight a step computes for a row of its block is the row's point's. -/
theorem weightAt_eq (t : Fin cfg0.N) (b : Fin 32) (vz vy vx : EReal) :
    weightAt (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) b vz vy vx
      = kw m c (pt t b) vz vy vx := by
  unfold weightAt
  rw [blk_2, blk_3, blk_4, blk_5, blk_6, blk_7, blk_8, blk_9, blk_10, blk_11, blk_12, blk_13]
  rfl

/-- The amplitude a step takes for a row of its block is the row's point's. -/
theorem amp_eq (t : Fin cfg0.N) (b : Fin 32) (ch : Fin 2) :
    (if ch.val = 0 then (iblk m c 12 t (ix2 b 0) : EReal) else (iblk m c 13 t (ix2 b 0) : EReal)) = kamp m c (pt t b) ch := by
  rw [blk_12, blk_13]
  fin_cases ch <;> rfl

/-- A cell by its coordinates. -/
theorem cell_at (x4 x5 x6 x7 x8 x9 x10 x11 x12 x13 x14 x15 : Vec Ideal S32x1 .f32) (ch : Fin 2) (b : Fin 32) (j : Fin 9) (p : Fin 2) (s : Fin 8) (l : Fin 128) :
    cell x4 x5 x6 x7 x8 x9 x10 x11 x12 x13 x14 x15 (ix6 ch b j p s l)
      = weightAt x4 x5 x6 x7 x8 x9 x10 x11 x12 x13 x14 x15 b (low (x4 (ix2 b 0) * ((127 : ℝ) : EReal)) + ((j.val : ℝ) : EReal))
          (lowRow (x5 (ix2 b 0) * ((127 : ℝ) : EReal)) + (((p.val * 8 + s.val : ℕ) : ℝ) : EReal)) ((l.val : ℝ) : EReal)
        * (if ch.val = 0 then x14 (ix2 b 0) else x15 (ix2 b 0)) := rfl

/-- A cell of a step's patches. -/
theorem patches_cell (t : Fin cfg0.N) (b : Fin 32) (ch : Fin 2) (j : Fin 9) (p : Fin 2) (s : Fin 8) (l : Fin 128) :
    patch (patchesAt m c t) b (ix6 ch 0 j p s l)
      = kw m c (pt t b) (low (kcen m c (pt t b) 0 * ((127 : ℝ) : EReal)) + ((j.val : ℝ) : EReal))
          (lowRow (kcen m c (pt t b) 1 * ((127 : ℝ) : EReal)) + (((p.val * 8 + s.val : ℕ) : ℝ) : EReal)) ((l.val : ℝ) : EReal) * kamp m c (pt t b) ch := by
  have e : patch (patchesAt m c t) b (ix6 ch 0 j p s l) = patchesAt m c t (ix6 ch b j p s l) := rfl
  rw [e, patchesAt, patches_at]
  rw [cell_at, weightAt_eq, blk_2, blk_3]
  exact congrArg _ (amp_eq m c t b ch)

/-- One point's addition, at one voxel. -/
theorem addAt_term (X : Vec Ideal S2x128x16x8x128 .f32) (t : Fin cfg0.N) (b : Fin 32) (ch : Fin 2) (z : Fin 128) (g : Fin 16) (s : Fin 8) (l : Fin 128) :
    addAt X (iblk m c 0 t (ix3 0 0 b) : BitVec 32).toNat (iblk m c 1 t (ix3 0 0 b) : BitVec 32).toNat (patch (patchesAt m c t) b) (ix5 ch z g s l)
      = (X (ix5 ch z g s l) : EReal) + term m c ch z g s l (pt t b) := by
  have e0 : (iblk m c 0 t (ix3 0 0 b) : BitVec 32) = wStart (cellWord (kcen m c (pt t b) 0 * ((127 : ℝ) : EReal))) := by
    rw [blk_sz, ← floorAt_eq]; rfl
  have e1 : (iblk m c 1 t (ix3 0 0 b) : BitVec 32) = wRow (wStart (cellWord (kcen m c (pt t b) 1 * ((127 : ℝ) : EReal)))) := by
    rw [blk_sy, ← floorAt_eq]; rfl
  rw [e0, e1]
  unfold term kw
  rw [← placed _ _ _ _ _ _ _ _ _ _ _ s.isLt]
  split_ifs with h
  · rw [addAt_pos _ _ h, patches_cell]; rfl
  · rw [addAt_neg _ _ h, zero_mul, add_zero]

/-- A point's term by its number. -/
def termN (ch : Fin 2) (z : Fin 128) (g : Fin 16) (s : Fin 8) (l : Fin 128) (n : ℕ) : EReal :=
  if h : n < 16384 then term m c ch z g s l ⟨n, h⟩ else 0

/-- A step's additions, at one voxel. -/
theorem chain_sum (X : Vec Ideal S2x128x16x8x128 .f32) (t : Fin cfg0.N) (ch : Fin 2) (z : Fin 128) (g : Fin 16) (s : Fin 8) (l : Fin 128) (n : ℕ) (hn : n ≤ 32) :
    (chain (iblk m c 0 t) (iblk m c 1 t) (patchesAt m c t) X n (ix5 ch z g s l) : EReal)
      = (X (ix5 ch z g s l) : EReal) + ∑ b ∈ Finset.range n, termN m c ch z g s l (32 * t.val + b) := by
  induction n with
  | zero => rw [Finset.range_zero, Finset.sum_empty, add_zero]; rfl
  | succ n ih =>
    rw [chain, addAt_term, ih (by omega), Finset.sum_range_succ, add_assoc]
    congr 2
    have ht : t.val < 512 := lt_of_lt_of_eq t.isLt Gen.N_0
    rw [termN, dif_pos (by omega)]
    congr 1
    apply Fin.ext
    show 32 * t.val + n % 32 = 32 * t.val + n
    omega

/-- The buffer after some steps, at one voxel. -/
theorem acc_sum (ch : Fin 2) (z : Fin 128) (g : Fin 16) (s : Fin 8) (l : Fin 128) (n : ℕ) (hn : n ≤ 512) :
    (acc m c n (ix5 ch z g s l) : EReal) = ∑ N ∈ Finset.range (32 * n), termN m c ch z g s l N := by
  induction n with
  | zero =>
    rw [acc, V_v33, Nat.mul_zero, Finset.range_zero, Finset.sum_empty]
    pointwise
  | succ n ih =>
    rw [acc_succ m c ⟨n, lt_of_lt_of_eq (by omega) Gen.N_0.symm⟩, chain_sum m c _ _ _ _ _ _ _ _ le_rfl, ih (by omega), Nat.mul_succ, Finset.sum_range_add]

/-- The buffer after all steps, at one voxel: the sum over the points. -/
theorem acc_all (ch : Fin 2) (z : Fin 128) (g : Fin 16) (s : Fin 8) (l : Fin 128) :
    (acc m c 512 (ix5 ch z g s l) : EReal) = ∑ n, term m c ch z g s l n := by
  rw [acc_sum m c ch z g s l 512 le_rfl, Finset.sum_range]
  refine Finset.sum_congr rfl fun n _ => ?_
  exact dif_pos n.isLt

end Cert.KernelIdeal.Hand

end
-- ==== Proof.KernelVolume.lean ====
module

public import proofs.«01_k».proof.Proof.KernelSum

@[expose] public section

set_option maxRecDepth 16384

/-! # What the kernel leaves in its result -/

noncomputable section

namespace Cert.KernelIdeal.Hand

open Cert.KernelIdeal Cert.KernelIdeal.Gen Cert.Value
open Idealize.ShloMosaic Idealize.ShloMosaic.TcCoe Idealize.ShloMosaic.StableHlo Idealize.ShloMosaic.Tactic Idealize.SL.Sem

variable (m : (ℓ : Loc nD τ sig) → Buf (Elt Ideal) ℓ) (c : Dev nD)

/-- The kernel's result: the buffer after all steps, its rows of eight rejoined. -/
def volume : FVec Ideal S2x128x128x128 .f32 := shapeCast S2x128x128x128 (acc m c 512) shapeCasts_S2x128x16x8x128_S2x128x128x128

/-- The region's last step is the only one that writes its result back. -/
theorem flush_last : ∀ t : Fin cfg0.N, (cfg0.win 14).flush t = true → t.val + 1 = 512 := (by decide +kernel : ∀ t : Fin grid0.N, _)

/-- Every block of the result is the whole of it. -/
theorem idx_14 : ∀ t : Fin cfg0.N, win0_14.index t = ![0, 0, 0, 0, 0] := (by decide +kernel : ∀ t : Fin grid0.N, _)

/-- The region's result after the run. -/
theorem arr_eq : (dats m 0 c).arrAt 14 cfg0.N = acc m c 512 := by
  refine (dats m 0 c).arrAt_eq_of_covers 14 _ (by decide +kernel) fun t hf y => ?_
  blk_simp
  rw [after_14, flush_last t hf]
  refine congrArg (acc m c 512) ?_
  blk_ext [idx_14 t]

/-- The result's buffer after the lines that follow the region. -/
theorem tail_eq : Pipeline.afterTail₀ cfgs (dats m) 0 (V0 m) [hostOps1] c main_v0 = volume m c := by
  unfold Pipeline.afterTail₀
  simp only [hostOps1, List.flatten_cons, List.flatten_nil, List.append_nil]
  after_results_simp
  have h := Pipeline.withArrays_arr (cfgs 0).spec (by decide) c (V0 m c) (fun w => (dats m 0 c).arrAt w (cfgs 0).N) 14
  have e : Pipeline.withArrays (cfgs 0).spec c (V0 m c) (fun w => (dats m 0 c).arrAt w (cfgs 0).N) (Proc.tc.devRef main_call0_v34) = acc m c 512 :=
    h.trans (arr_eq m c)
  rw [e]
  rfl

/-- The kernel's result at a voxel: the sum over the points. -/
theorem volume_at (ch : Fin 2) (z y x : Fin 128) :
    (volume m c (ix4 ch z y x) : EReal)
      = ∑ n, kw m c n (((z.val : ℤ) : ℝ) : EReal) (((y.val : ℤ) : ℝ) : EReal) (((x.val : ℤ) : ℝ) : EReal) * kamp m c n ch := by
  have h := acc_all m c ch z ⟨y.val / 8, by omega⟩ ⟨y.val % 8, by omega⟩ x
  have e : y.val / 8 * 8 + y.val % 8 = y.val := by omega
  simp only [term, e] at h
  rw [← h]
  unfold volume
  pointwise

/-- Every execution of the kernel leaves the volume in its result and its arguments as launched. -/
theorem run_volume (ρ : Dev nD → PrngReg) : θ_run defs (onTc (τ := τ) (main (F := Ideal))) ⟨m, fun _ => 0, ρ⟩ (fun r => ∀ c : Dev nD,
      r.2.mem ((c.tc : Thread nD τ).loc main_v0) = volume m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h.1 c).2 main_v0 (Pipeline.mem_restRefs_of main_v0 (by decide) (by decide))).trans (tail_eq m c),
      ((h.1 c).2 main_arg0 (Pipeline.mem_restRefs_of main_arg0 (by decide) (by decide))).trans (W_arg m c main_arg0 (by decide) (by decide) (V_main_arg0 m c)),
      ((h.1 c).2 main_arg1 (Pipeline.mem_restRefs_of main_arg1 (by decide) (by decide))).trans (W_arg m c main_arg1 (by decide) (by decide) (V_main_arg1 m c)),
      ((h.1 c).2 main_arg2 (Pipeline.mem_restRefs_of main_arg2 (by decide) (by decide))).trans (W_arg m c main_arg2 (by decide) (by decide) (V_main_arg2 m c)),
      ((h.1 c).2 main_arg3 (Pipeline.mem_restRefs_of main_arg3 (by decide) (by decide))).trans (W_arg m c main_arg3 (by decide) (by decide) (V_main_arg3 m c))⟩)
    (run_main m ρ)

end Cert.KernelIdeal.Hand

end
-- ==== Proof.RefValues.lean ====
module

public import proofs.«01_k».proof.Proof.Gen.ReferenceIdeal.Run
public import proofs.«01_k».proof.Proof.RefScalar
public import Idealize.ShloMosaic.Lib.Pointwise
public import Idealize.ShloMosaic.Lib.Tactic.CleanTypes

@[expose] public section

set_option maxRecDepth 16384

/-! # The values the reference computes, read at one point -/

noncomputable section

namespace Cert.ReferenceIdeal.Hand

open Cert.ReferenceIdeal Cert.ReferenceIdeal.Gen Cert.ReferenceIdeal.Value Cert.Value
open Idealize.ShloMosaic Idealize.ShloMosaic.Tactic

variable (V : Valuation τ sig (Elt Ideal))

/-- The centers, the scales, the quaternions and the amplitudes. -/
abbrev cen (n : Fin 16384) (k : Fin 3) : EReal := V (Proc.devRef .tc main_arg0) (ix2 n k)
@[inherit_doc cen] abbrev sca (n : Fin 16384) (k : Fin 3) : EReal := V (Proc.devRef .tc main_arg1) (ix2 n k)
@[inherit_doc cen] abbrev qua (n : Fin 16384) (k : Fin 4) : EReal := V (Proc.devRef .tc main_arg2) (ix2 n k)
@[inherit_doc cen] abbrev amp (n : Fin 16384) (k : Fin 2) : EReal := V (Proc.devRef .tc main_arg3) (ix2 n k)

variable (n : Fin 16384)

/-- Entry `k` of the reference's quaternion, normalized once. -/
def once (k : Fin 4) : EReal := Ideal.div (qua V n k) (qnorm (qua V n 0) (qua V n 1) (qua V n 2) (qua V n 3))

/-- Entry `k` of the reference's quaternion, normalized twice. -/
def twice (k : Fin 4) : EReal := Ideal.div (once V n k) (qnorm (once V n 0) (once V n 1) (once V n 2) (once V n 3))

/-- The reference's scale: the exponential of a logarithm. -/
def spos (k : Fin 3) : EReal := Ideal.exp (Ideal.log (max milli (sca V n k)))

/-- The reference's rotation matrix. -/
def refRot : Fin 3 → Fin 3 → EReal := rot (twice V n 0) (twice V n 1) (twice V n 2) (twice V n 3)

/-- The reference's precision matrix. -/
def refPrec (i k : Fin 3) : EReal :=
  ∑ x, refRot V n i x * (refRot V n k x * Ideal.div 1 (max ((13743895 / 137438953472 : ℝ) : EReal) (spos V n x) * max ((13743895 / 137438953472 : ℝ) : EReal) (spos V n x)))

/-- A center in voxels. -/
def ctr (k : Fin 3) : EReal := cen V n k * ((127 : ℝ) : EReal)

/-- The reference's reach. -/
def refReach : EReal := max (max (spos V n 0) (spos V n 1)) (spos V n 2) * ((3 : ℝ) : EReal)

/-- The scales, at one point. -/
theorem v2_at (k : Fin 3) : res_main_v2 V (ix2 n k) = spos V n k := by
  simp only [res_main_v2, id]
  clean_types
  pointwise
  rw [ofBits_milli]; rfl

/-- The quaternion normalized once, at one point. -/
theorem v6_at (k : Fin 4) : res_main_v6 V (ix2 n k) = once V n k := by
  simp only [res_main_v6, id]
  clean_types
  pointwise
  rw [ofBits_micro, Fin.sum_univ_four]; rfl

/-- The quaternion normalized twice, at one point. -/
theorem v10_at (k : Fin 4) : res_main_v10 V (ix2 n k) = twice V n k := by
  simp only [res_main_v10, id]
  clean_types
  pointwise
  rw [ofBits_micro, Fin.sum_univ_four]
  simp only [v6_at]; rfl

/-- The first entry of the quaternion. -/
theorem v12_at : res_main_v12 V (ix1 n) = twice V n 0 := by
  simp only [res_main_v12]
  pointwise
  exact v10_at V n 0
/-- The second entry of the quaternion. -/
theorem v14_at : res_main_v14 V (ix1 n) = twice V n 1 := by
  simp only [res_main_v14]
  pointwise
  exact v10_at V n 1
/-- The third entry of the quaternion. -/
theorem v16_at : res_main_v16 V (ix1 n) = twice V n 2 := by
  simp only [res_main_v16]
  pointwise
  exact v10_at V n 2
/-- The fourth entry of the quaternion. -/
theorem v18_at : res_main_v18 V (ix1 n) = twice V n 3 := by
  simp only [res_main_v18]
  pointwise
  exact v10_at V n 3

/-- The rotation matrix, at one point. -/
theorem v71_at (i k : Fin 3) : res_main_v71 V (ix3 n i k) = refRot V n i k := by
  simp only [res_main_v71]
  pointwise
  simp only [res_main_v19, res_main_v20, res_main_v21, res_main_v22, res_main_v23, res_main_v24, res_main_v25, res_main_v26, res_main_v27, res_main_v28]
  pointwise
  simp only [v12_at, v14_at, v16_at, v18_at, ofBits_2]
  fin_cases i <;> fin_cases k <;> simp [refRot, rot]

/-- The precision matrix, at one point. -/
theorem v79_at (i k : Fin 3) : res_main_v79 V (ix3 n i k) = refPrec V n i k := by
  simp only [res_main_v79]
  pointwise
  simp only [v71_at, res_main_v72, id]
  clean_types
  pointwise
  simp only [v2_at, ofBits_tenthMilli]
  rfl

/-- The center in voxels, at one point. -/
theorem v82_at (k : Fin 3) : res_main_v82 V (ix2 n k) = ctr V n k := by
  simp only [res_main_v82, res_main_cst]
  pointwise
  rw [ofBits_127]; rfl

/-- The reach, at one point. -/
theorem v85_at : res_main_v85 V (ix1 n) = refReach V n := by
  simp only [res_main_v85]
  clean_types
  pointwise
  simp only [v2_at, ofBits_3]
  rw [show Ideal.ofBits FTy.f32 4286578688#32 = (⊥ : EReal) by simp [Ideal.ofBits, Ideal.ieee],
    show (Finset.univ : Finset (Fin 3)) = {0, 1, 2} from rfl]
  simp [refReach, max_assoc]

/-- The least coordinate in reach, on one axis. -/
theorem v91_at (k : Fin 3) : res_main_v91 V (ix2 n k) = max 0 (Ideal.liftRound Int.floor (ctr V n k - refReach V n)) := by
  simp only [res_main_v91]
  pointwise
  simp only [v82_at, v85_at]

/-- The greatest coordinate in reach, on one axis. -/
theorem v98_at (k : Fin 3) : res_main_v98 V (ix2 n k) = min ((127 : ℝ) : EReal) (Ideal.liftRound Int.ceil (ctr V n k + refReach V n)) := by
  simp only [res_main_v98, res_main_cst]
  pointwise
  simp only [v82_at, v85_at, ofBits_127]

/-- The words of a window on the first axis. -/
theorem v108_at (i : Fin 9) : res_main_v108 V (ix2 n i) = word (ctr V n 0) i := by
  simp only [res_main_v108, res_main_v102, res_main_v103]
  pointwise
  simp only [v82_at]; rfl
/-- The words of a window on the second axis. -/
theorem v113_at (i : Fin 9) : res_main_v113 V (ix2 n i) = word (ctr V n 1) i := by
  simp only [res_main_v113, res_main_v102, res_main_v103]
  pointwise
  simp only [v82_at]; rfl
/-- The words of a window on the third axis. -/
theorem v118_at (i : Fin 9) : res_main_v118 V (ix2 n i) = word (ctr V n 2) i := by
  simp only [res_main_v118, res_main_v102, res_main_v103]
  pointwise
  simp only [v82_at]; rfl

/-- The distances from the center on the first axis. -/
theorem v131_at (i : Fin 9) : res_main_v131 V (ix4 n i 0 0) = coord (ctr V n 0) i - ctr V n 0 := by
  simp only [res_main_v131]
  pointwise
  simp only [v108_at, v82_at, sitofp_eq]; rfl
/-- The distances from the center on the second axis. -/
theorem v132_at (i : Fin 9) : res_main_v132 V (ix4 n 0 i 0) = coord (ctr V n 1) i - ctr V n 1 := by
  simp only [res_main_v132]
  pointwise
  simp only [v113_at, v82_at, sitofp_eq]; rfl
/-- The distances from the center on the third axis. -/
theorem v133_at (i : Fin 9) : res_main_v133 V (ix4 n 0 0 i) = coord (ctr V n 2) i - ctr V n 2 := by
  simp only [res_main_v133]
  pointwise
  simp only [v118_at, v82_at, sitofp_eq]; rfl

/-- The amplitude of the first channel. -/
theorem v230_at : res_main_v230 V (ix1 n) = amp V n 0 := by
  simp only [res_main_v230]
  pointwise
/-- The amplitude of the second channel. -/
theorem v233_at : res_main_v233 V (ix1 n) = amp V n 1 := by
  simp only [res_main_v233]
  pointwise

/-- The reference's weight of point `n` at the cell `(i, j, k)` of its window. -/
def refWeight (i j k : Fin 9) : EReal :=
  Ideal.exp (((-1 / 2 : ℝ) : EReal) * quadRef (refPrec V n) (coord (ctr V n 0) i - ctr V n 0) (coord (ctr V n 1) j - ctr V n 1) (coord (ctr V n 2) k - ctr V n 2))
    * ind (((inside (ctr V n 0) (refReach V n) (coord (ctr V n 0) i)) ∧ inside (ctr V n 1) (refReach V n) (coord (ctr V n 1) j)) ∧ inside (ctr V n 2) (refReach V n) (coord (ctr V n 2) k))
    * ind (micro ≤ Ideal.sqrt (amp V n 0 * amp V n 0 + amp V n 1 * amp V n 1) ∧ milli ≤ refReach V n)

/-- The weights of a window, masked. -/
theorem v247_at (i j k : Fin 9) : res_main_v247 V (ix4 n i j k) = refWeight V n i j k := by
  simp only [res_main_v247, res_main_v243]
  pointwise
  simp only [v79_at, v131_at, v132_at, v133_at, v91_at, v98_at, v108_at, v113_at, v118_at, v230_at, v233_at, v85_at, ofBits_neg_half, ofBits_2, ofBits_micro, ofBits_milli, sitofp_eq, umask6, umask2]
  rfl

/-- The places of all windows' cells in the flat volume. -/
theorem v264_at (y : Fin 11943936) : res_main_v264 V (ix1 y) =
    flatWord (word (ctr V ⟨y.val / 729, by omega⟩ 0) ⟨y.val / 81 % 9, by omega⟩) (word (ctr V ⟨y.val / 729, by omega⟩ 1) ⟨y.val / 9 % 9, by omega⟩)
      (word (ctr V ⟨y.val / 729, by omega⟩ 2) ⟨y.val % 9, by omega⟩) := by
  simp only [res_main_v264, id]
  clean_types
  pointwise
  simp only [v108_at, v113_at, v118_at]
  rfl

end Cert.ReferenceIdeal.Hand

end
-- ==== Proof.Scatter.lean ====
module

public import Idealize.ShloMosaic.Lib.Routing.OpsPair
public import Idealize.ShloMosaic.Lib.Pointwise

@[expose] public section

/-! # A scatter-add of scalars into a vector, and a sum over windows

Both theorems keep the extents as variables. -/

noncomputable section

namespace Cert.Value

open Idealize.ShloMosaic Idealize.ShloMosaic.Tactic Idealize.ShloMosaic.Routing

/-- A scatter-add of `M` scalars into a vector of `N` adds at each place the updates whose word, read signed, is the place. -/
theorem scatter_sum {N M : ℕ} (d : ScatterDims (shape1 N) (shape2 M 1) (shape1 M)) (hi : d.insertedWindowDims = [0])
    (hs : d.scatterDimsToOperandDims = [0]) (hv : d.indexVectorDim = 1) (x : (shape1 N).Idx → EReal) (w : IVec (shape2 M 1) 32)
    (u : (shape1 M).Idx → EReal) (e : Fin N) :
    Ideal.hostScatterAdd d x w u (ix1 e) = x (ix1 e) + ∑ f : Fin M, if (w (ix2 f 0)).toInt = (e.val : ℤ) then u (ix1 f) else 0 := by
  unfold Ideal.hostScatterAdd
  refine congrArg (x (ix1 e) + ·) ?_
  rw [Finset.sum_filter, sum_idx1]
  refine Finset.sum_congr rfl fun f _ => ?_
  have hm : (0 : Fin 1) ∈ d.scatterDimsToOperandDims := by simp [hs]
  have hwin : d.window (ix1 f) 0 = 0 := by
    refine dif_neg fun h => ?_
    have := of_decide_eq_true (List.mem_filter.1 h).2
    exact this (by simp [hi])
  have hstart : d.start (ix1 f) w 0 = (w (ix2 f 0)).toInt := by
    refine (dif_pos hm).trans (congrArg (fun i => (w i).toInt) (funext fun b => Fin.ext ?_))
    match b with
    | ⟨0, _⟩ =>
      refine (congrArg Fin.val (dif_neg (by simp [hv]))).trans ?_
      have e : ∀ X : Fin 1, (ix1 f X).val = f.val := fun X => by
        obtain rfl := Subsingleton.elim X 0
        rfl
      exact e _
    | ⟨1, _⟩ =>
      refine (congrArg Fin.val (dif_pos (by simp [hv]))).trans ?_
      show List.idxOf (0 : Fin 1) d.scatterDimsToOperandDims = 0
      simp [hs]
  have key := resultIdx?_ix1 d (ix1 f) w e
  rw [hwin, hstart] at key
  exact if_congr (key.trans (by simp)) rfl rfl

/-- A sum over the cells of all windows, laid end to end, is the sum over the points of the sums over their windows. -/
theorem sum_windows {M N : ℕ} (hM : M = N * 729) (F : Fin M → EReal) (g : Fin N → Fin 9 → Fin 9 → Fin 9 → EReal)
    (h : ∀ f : Fin M, F f = g ⟨f.val / 729, by omega⟩ ⟨f.val / 81 % 9, by omega⟩ ⟨f.val / 9 % 9, by omega⟩ ⟨f.val % 9, by omega⟩) :
    ∑ f, F f = ∑ n, ∑ i, ∑ j, ∑ k, g n i j k := by
  let E : Fin M ≃ Fin N × Fin 9 × Fin 9 × Fin 9 :=
    { toFun := fun f => (⟨f.val / 729, by omega⟩, ⟨f.val / 81 % 9, by omega⟩, ⟨f.val / 9 % 9, by omega⟩, ⟨f.val % 9, by omega⟩)
      invFun := fun q => ⟨q.1.val * 729 + q.2.1.val * 81 + q.2.2.1.val * 9 + q.2.2.2.val, by
        have := q.1.isLt; have := q.2.1.isLt; have := q.2.2.1.isLt; have := q.2.2.2.isLt; omega⟩
      left_inv := fun f => Fin.ext (by simp only; omega)
      right_inv := fun q => by
        obtain ⟨n, i, j, k⟩ := q
        have := n.isLt; have := i.isLt; have := j.isLt; have := k.isLt
        simp only [Prod.mk.injEq, Fin.ext_iff]
        refine ⟨?_, ?_, ?_, ?_⟩ <;> omega }
  rw [Fintype.sum_equiv E F (fun q => g q.1 q.2.1 q.2.2.1 q.2.2.2) h]
  simp only [Fintype.sum_prod_type]

end Cert.Value

end
-- ==== Proof.RefSum.lean ====
module

public import proofs.«01_k».proof.Proof.RefValues
public import proofs.«01_k».proof.Proof.Axis
public import proofs.«01_k».proof.Proof.Scatter

@[expose] public section

set_option maxRecDepth 16384

/-! # The reference's volume, read at one voxel, as a sum over the cells of all windows -/

noncomputable section

namespace Cert.ReferenceIdeal.Hand

open Cert.ReferenceIdeal Cert.ReferenceIdeal.Gen Cert.ReferenceIdeal.Value Cert.Value
open Idealize.ShloMosaic Idealize.ShloMosaic.Tactic
open scoped Classical

/-- Over the extended reals the reference's scatter is a sum at each place. -/
theorem scatter_ideal (x : FVec Ideal S2097152 .f32) (w : IVec S11943936x1 32) (u : FVec Ideal S11943936 .f32) :
    Host.scatterAdd (F := Ideal) scatter_S2097152_S11943936x1_S11943936_n_0_0_1 x w u = Ideal.hostScatterAdd scatter_S2097152_S11943936x1_S11943936_n_0_0_1 x w u := rfl

/-- The sum at a place, over the updates whose word is the place. -/
theorem scatter_place (x : FVec Ideal S2097152 .f32) (w : IVec S11943936x1 32) (u : FVec Ideal S11943936 .f32) (e : Fin 2097152) :
    Ideal.hostScatterAdd scatter_S2097152_S11943936x1_S11943936_n_0_0_1 x w u (ix1 e) = x (ix1 e) + ∑ f : Fin 11943936, if (w (ix2 f 0)).toInt = (e.val : ℤ) then u (ix1 f) else 0 :=
  scatter_sum scatter_S2097152_S11943936x1_S11943936_n_0_0_1 rfl rfl rfl x w u e

/-- The volume the scatter starts from is zero. -/
theorem zeros_at (e : Fin 2097152) :
    (broadcastInDim S2097152 ![] bcast_S_S2097152 (constant (F := Ideal) S_ .f32 0#32)) (ix1 e) = (0 : EReal) := by
  pointwise

/-- The words of the scatter, as a column. -/
theorem column_at (w : IVec S11943936 32) (f : Fin 11943936) :
    broadcastInDim S11943936x1 ![0] bcast_S11943936_S11943936x1_0 w (ix2 f 0) = w (ix1 f) := by
  pointwise

/-- The reference's scatter, from a volume of zeros, adds at each place the updates whose word is the place. -/
theorem scatter_at (w : IVec S11943936 32) (u : FVec Ideal S11943936 .f32) (e : Fin 2097152) :
    Host.scatterAdd (F := Ideal) scatter_S2097152_S11943936x1_S11943936_n_0_0_1
        (broadcastInDim S2097152 ![] bcast_S_S2097152 (constant S_ .f32 0#32))
        (broadcastInDim S11943936x1 ![0] bcast_S11943936_S11943936x1_0 w) u (ix1 e)
      = ∑ f : Fin 11943936, if (w (ix1 f)).toInt = (e.val : ℤ) then u (ix1 f) else 0 := by
  rw [scatter_ideal, scatter_place, zeros_at, zero_add]
  refine Finset.sum_congr rfl fun f _ => ?_
  rw [column_at]

variable (V : Valuation τ sig (Elt Ideal))

/-- A word that is not negative is not wrapped. -/
theorem unwrapped (w : BitVec 32) (h : 0 ≤ w.toInt) (a : BitVec 32) : Scalar.select (IntOp.cmpi .slt w 0#32) a w = w := by
  have : w.slt 0#32 = false := by
    simp only [BitVec.slt, decide_eq_false_iff_not]; simpa using h
  simp [Scalar.select, IntOp.cmpi, this]

/-- The reference's places are not negative. -/
theorem places_at (f : Fin 11943936) : (select (cmpi CmpIPredicate.slt (res_main_v264 V) (broadcastInDim S11943936 ![] bcast_S_S11943936 (constantI S_ 32 0#32)))
      (addi (res_main_v264 V) (broadcastInDim S11943936 ![] bcast_S_S11943936 (constantI S_ 32 2097152#32))) (res_main_v264 V)) (ix1 f) = res_main_v264 V (ix1 f) := by
  refine unwrapped (res_main_v264 V (ix1 f)) ?_ _
  rw [v264_at, flatWord_toInt]
  unfold clipInt
  omega

/-- A volume of the reference at a voxel: the cells that land there. -/
theorem volume_at (u : FVec Ideal S11943936 .f32) (ch : Fin 2)
    (hu : ∀ f : Fin 11943936, u (ix1 f) = refWeight V ⟨f.val / 729, by omega⟩ ⟨f.val / 81 % 9, by omega⟩ ⟨f.val / 9 % 9, by omega⟩ ⟨f.val % 9, by omega⟩
      * amp V ⟨f.val / 729, by omega⟩ ch) (e : Fin 2097152) :
    Host.scatterAdd (F := Ideal) scatter_S2097152_S11943936x1_S11943936_n_0_0_1
        (broadcastInDim S2097152 ![] bcast_S_S2097152 (constant S_ .f32 0#32))
        (broadcastInDim S11943936x1 ![0] bcast_S11943936_S11943936x1_0 (select (cmpi CmpIPredicate.slt (res_main_v264 V) (broadcastInDim S11943936 ![] bcast_S_S11943936 (constantI S_ 32 0#32)))
      (addi (res_main_v264 V) (broadcastInDim S11943936 ![] bcast_S_S11943936 (constantI S_ 32 2097152#32))) (res_main_v264 V))) u (ix1 e)
      = ∑ n, ∑ i, ∑ j, ∑ k, if (flatWord (word (ctr V n 0) i) (word (ctr V n 1) j) (word (ctr V n 2) k)).toInt = (e.val : ℤ)
      then refWeight V n i j k * amp V n ch else 0 := by
  rw [scatter_at]
  refine sum_windows (N := 16384) rfl _ (fun n i j k => if (flatWord (word (ctr V n 0) i) (word (ctr V n 1) j) (word (ctr V n 2) k)).toInt = (e.val : ℤ)
      then refWeight V n i j k * amp V n ch else 0) fun f => ?_
  rw [places_at, v264_at, hu]

/-- What the reference leaves in its result. -/
def result : FVec Ideal S2x128x128x128 .f32 :=
  concatenate S2x128x128x128 0 [⟨S1x128x128x128, (broadcastInDim S1x128x128x128 ![1, 2, 3] bcast_S128x128x128_S1x128x128x128_1_2_3 (shapeCast _ (Host.scatterAdd scatter_S2097152_S11943936x1_S11943936_n_0_0_1 (broadcastInDim S2097152 ![] bcast_S_S2097152 (constant S_ .f32 0x00000000#32)) (broadcastInDim S11943936x1 ![0] bcast_S11943936_S11943936x1_0 (select (cmpi .slt (res_main_v264 V) (broadcastInDim S11943936 ![] bcast_S_S11943936 (constantI S_ 32 0#32))) (addi (res_main_v264 V) (broadcastInDim S11943936 ![] bcast_S_S11943936 (constantI S_ 32 2097152#32))) (res_main_v264 V))) (shapeCast _ (mulf (res_main_v247 V) (broadcastInDim S16384x9x9x9 ![0, 1, 2, 3] bcast_S16384x1x1x1_S16384x9x9x9_0_1_2_3 (broadcastInDim S16384x1x1x1 ![0] bcast_S16384_S16384x1x1x1_0 (shapeCast _ (extractStridedSlice S16384x1 ![0, 0] (V (Proc.devRef .tc main_arg3)) slices_S16384x2_S16384x1_0_0) shapeCasts_S16384x1_S16384)))) shapeCasts_S16384x9x9x9_S11943936)) shapeCasts_S2097152_S128x128x128))⟩, ⟨S1x128x128x128, (broadcastInDim S1x128x128x128 ![1, 2, 3] bcast_S128x128x128_S1x128x128x128_1_2_3 (shapeCast _ (Host.scatterAdd scatter_S2097152_S11943936x1_S11943936_n_0_0_1 (broadcastInDim S2097152 ![] bcast_S_S2097152 (constant S_ .f32 0x00000000#32)) (broadcastInDim S11943936x1 ![0] bcast_S11943936_S11943936x1_0 (select (cmpi .slt (res_main_v264 V) (broadcastInDim S11943936 ![] bcast_S_S11943936 (constantI S_ 32 0#32))) (addi (res_main_v264 V) (broadcastInDim S11943936 ![] bcast_S_S11943936 (constantI S_ 32 2097152#32))) (res_main_v264 V))) (shapeCast _ (mulf (res_main_v247 V) (broadcastInDim S16384x9x9x9 ![0, 1, 2, 3] bcast_S16384x1x1x1_S16384x9x9x9_0_1_2_3 (broadcastInDim S16384x1x1x1 ![0] bcast_S16384_S16384x1x1x1_0 (shapeCast _ (extractStridedSlice S16384x1 ![0, 1] (V (Proc.devRef .tc main_arg3)) slices_S16384x2_S16384x1_0_1) shapeCasts_S16384x1_S16384)))) shapeCasts_S16384x9x9x9_S11943936)) shapeCasts_S2097152_S128x128x128))⟩] concatenates_S1x128x128x128_S1x128x128x128_S2x128x128x128_d0

/-- The reference's result at a voxel: the cells that land there. -/
theorem result_at (ch : Fin 2) (z y x : Fin 128) : result V (ix4 ch z y x) =
    ∑ n, ∑ i, ∑ j, ∑ k, if (flatWord (word (ctr V n 0) i) (word (ctr V n 1) j) (word (ctr V n 2) k)).toInt = ((z.val * 16384 + y.val * 128 + x.val : ℕ) : ℤ)
      then refWeight V n i j k * amp V n ch else 0 := by
  simp only [result]
  clean_types
  pointwise
  by_cases h : ch.val < 1
  · rw [dif_pos h]
    obtain rfl : ch = 0 := Fin.ext (by simpa using h)
    refine volume_at V _ 0 (fun f => ?_) _
    pointwise
    rw [v247_at]
  · rw [dif_neg h]
    obtain rfl : ch = 1 := Fin.ext (by have := ch.isLt; show ch.val = 1; omega)
    refine volume_at V _ 1 (fun f => ?_) _
    pointwise
    rw [v247_at]

end Cert.ReferenceIdeal.Hand

end
-- ==== Proof.Window.lean ====
module

public import proofs.«01_k».proof.Proof.Axis

@[expose] public section

/-! # At most one cell of a point's window lands on a voxel -/

noncomputable section

namespace Cert.Value

open Idealize.ShloMosaic
open scoped Classical

/-- A word in the volume is clipped to itself. -/
theorem clipInt_of_range {w : BitVec 32} (h : 0 ≤ w.toInt ∧ w.toInt ≤ 127) : clipInt w = w.toInt := by
  unfold clipInt; omega

/-- The sum over a point's window of what lands on one voxel: the weight there, where the voxel passes the test on every axis. -/
theorem window_sum (cz cy cx r a : EReal) (W : EReal → EReal → EReal → EReal) (q : Prop) (z y x : Fin 128) :
    (∑ i, ∑ j, ∑ k, if (flatWord (word cz i) (word cy j) (word cx k)).toInt = ((z.val * 16384 + y.val * 128 + x.val : ℕ) : ℤ)
      then W (coord cz i) (coord cy j) (coord cx k) * ind ((inside cz r (coord cz i) ∧ inside cy r (coord cy j)) ∧ inside cx r (coord cx k)) * ind q * a
      else 0)
      = if (ax cz r (((z.val : ℤ) : ℝ) : EReal) ∧ ax cy r (((y.val : ℤ) : ℝ) : EReal) ∧ ax cx r (((x.val : ℤ) : ℝ) : EReal)) ∧ q
        then W (((z.val : ℤ) : ℝ) : EReal) (((y.val : ℤ) : ℝ) : EReal) (((x.val : ℤ) : ℝ) : EReal) * a else 0 := by
  have hz := z.isLt
  have hy := y.isLt
  have hx := x.isLt
  -- a cell contributes only where its three words are the voxel's coordinates and all tests pass
  have cell : ∀ i j k : Fin 9, (if (flatWord (word cz i) (word cy j) (word cx k)).toInt = ((z.val * 16384 + y.val * 128 + x.val : ℕ) : ℤ)
      then W (coord cz i) (coord cy j) (coord cx k) * ind ((inside cz r (coord cz i) ∧ inside cy r (coord cy j)) ∧ inside cx r (coord cx k)) * ind q * a
      else 0)
      = if ((word cz i).toInt = z.val ∧ (word cy j).toInt = y.val ∧ (word cx k).toInt = x.val)
          ∧ (inside cz r (((z.val : ℤ) : ℝ) : EReal) ∧ inside cy r (((y.val : ℤ) : ℝ) : EReal) ∧ inside cx r (((x.val : ℤ) : ℝ) : EReal)) ∧ q
        then W (((z.val : ℤ) : ℝ) : EReal) (((y.val : ℤ) : ℝ) : EReal) (((x.val : ℤ) : ℝ) : EReal) * a else 0 := by
    intro i j k
    by_cases hin : (inside cz r (coord cz i) ∧ inside cy r (coord cy j)) ∧ inside cx r (coord cx k)
    · obtain ⟨⟨iz, iy⟩, ix⟩ := hin
      have rz := inside_range iz
      have ry := inside_range iy
      have rx := inside_range ix
      rw [flatWord_toInt, clipInt_of_range rz, clipInt_of_range ry, clipInt_of_range rx]
      by_cases hw : (word cz i).toInt = z.val ∧ (word cy j).toInt = y.val ∧ (word cx k).toInt = x.val
      · obtain ⟨wz, wy, wx⟩ := hw
        unfold coord at *
        rw [wz] at iz ⊢
        rw [wy] at iy ⊢
        rw [wx] at ix ⊢
        rw [if_pos (by push_cast; ring)]
        have e1 : ind ((inside cz r (((z.val : ℤ) : ℝ) : EReal) ∧ inside cy r (((y.val : ℤ) : ℝ) : EReal)) ∧ inside cx r (((x.val : ℤ) : ℝ) : EReal)) = 1 := if_pos ⟨⟨iz, iy⟩, ix⟩
        rw [e1, mul_one]
        by_cases hq : q
        · rw [if_pos ⟨⟨rfl, rfl, rfl⟩, ⟨iz, iy, ix⟩, hq⟩, show ind q = 1 from if_pos hq, mul_one]
        · rw [if_neg fun h => hq h.2.2, show ind q = 0 from if_neg hq, mul_zero, zero_mul]
      · rw [if_neg (by omega), if_neg (fun h => hw h.1)]
    · have e0 : ind ((inside cz r (coord cz i) ∧ inside cy r (coord cy j)) ∧ inside cx r (coord cx k)) = 0 := if_neg hin
      rw [e0, mul_zero, zero_mul, zero_mul, ite_self, if_neg]
      rintro ⟨⟨wz, wy, wx⟩, ⟨iz, iy, ix⟩, -⟩
      unfold coord at hin
      rw [wz, wy, wx] at hin
      exact hin ⟨⟨iz, iy⟩, ix⟩
  simp only [cell]
  by_cases h : (ax cz r (((z.val : ℤ) : ℝ) : EReal) ∧ ax cy r (((y.val : ℤ) : ℝ) : EReal) ∧ ax cx r (((x.val : ℤ) : ℝ) : EReal)) ∧ q
  · rw [if_pos h]
    obtain ⟨⟨az, ay, ax'⟩, hq⟩ := h
    obtain ⟨i, wz, iz⟩ := (ax_iff_word cz r z.val).mp az
    obtain ⟨j, wy, iy⟩ := (ax_iff_word cy r y.val).mp ay
    obtain ⟨k, wx, ix⟩ := (ax_iff_word cx r x.val).mp ax'
    rw [Finset.sum_eq_single i, Finset.sum_eq_single j, Finset.sum_eq_single k, if_pos ⟨⟨wz, wy, wx⟩, ⟨iz, iy, ix⟩, hq⟩]
    · intro k' _ hk
      exact if_neg fun h => hk (word_inj cx (BitVec.eq_of_toInt_eq (h.1.2.2.trans wx.symm)))
    · simp
    · intro j' _ hj
      exact Finset.sum_eq_zero fun k' _ => if_neg fun h => hj (word_inj cy (BitVec.eq_of_toInt_eq (h.1.2.1.trans wy.symm)))
    · simp
    · intro i' _ hi
      exact Finset.sum_eq_zero fun j' _ => Finset.sum_eq_zero fun k' _ => if_neg fun h => hi (word_inj cz (BitVec.eq_of_toInt_eq (h.1.1.trans wz.symm)))
    · simp
  · rw [if_neg h]
    refine Finset.sum_eq_zero fun i _ => Finset.sum_eq_zero fun j _ => Finset.sum_eq_zero fun k _ => if_neg ?_
    rintro ⟨⟨wz, wy, wx⟩, ⟨iz, iy, ix⟩, hq⟩
    exact h ⟨⟨(ax_iff_word cz r z.val).mpr ⟨i, wz, iz⟩, (ax_iff_word cy r y.val).mpr ⟨j, wy, iy⟩, (ax_iff_word cx r x.val).mpr ⟨k, wx, ix⟩⟩, hq⟩

end Cert.Value

end
-- ==== Proof.RefPoint.lean ====
module

public import proofs.«01_k».proof.Proof.RefSum
public import proofs.«01_k».proof.Proof.Window
public import proofs.«01_k».proof.Proof.PointEq

@[expose] public section

set_option maxRecDepth 16384

/-! # The reference's result: the sum over the points of the kernel's weights -/

noncomputable section

namespace Cert.ReferenceIdeal.Hand

open Cert.ReferenceIdeal Cert.ReferenceIdeal.Gen Cert.ReferenceIdeal.Value Cert.Value
open Idealize.ShloMosaic Idealize.ShloMosaic.Tactic Idealize.ShloMosaic.StableHlo Idealize.SL.Sem
open scoped Classical

variable (V : Valuation τ sig (Elt Ideal)) (n : Fin 16384)

/-- The norm of the point's quaternion is zero or no less than `micro`. -/
def Normal : Prop :=
  Ideal.sqrt (qua V n 0 * qua V n 0 + qua V n 1 * qua V n 1 + qua V n 2 * qua V n 2 + qua V n 3 * qua V n 3) = 0
    ∨ micro ≤ Ideal.sqrt (qua V n 0 * qua V n 0 + qua V n 1 * qua V n 1 + qua V n 2 * qua V n 2 + qua V n 3 * qua V n 3)

/-- The kernel's precision matrix of the point. -/
def kerPrec : Fin 3 → Fin 3 → EReal :=
  precOf (qua V n 0) (qua V n 1) (qua V n 2) (qua V n 3) (sca V n 0) (sca V n 1) (sca V n 2)

/-- The kernel's weight of the point at a voxel. -/
def kerWeight (z y x : EReal) : EReal :=
  weight (kerPrec V n) (ctr V n 0) (ctr V n 1) (ctr V n 2) (reach (sca V n 0) (sca V n 1) (sca V n 2)) (amp V n 0) (amp V n 1) z y x

/-- The reference's scale is the kernel's. -/
theorem spos_eq (k : Fin 3) : spos V n k = max milli (sca V n k) := exp_log_scale _

/-- The reference's reach is the kernel's. -/
theorem refReach_eq : refReach V n = reach (sca V n 0) (sca V n 1) (sca V n 2) := by
  unfold refReach reach
  rw [spos_eq, spos_eq, spos_eq]

/-- The two precision matrices are one, of real numbers. -/
theorem refPrec_eq (h : Normal V n) : ∃ p : Fin 3 → Fin 3 → ℝ, refPrec V n = kerPrec V n ∧ ∀ i k, kerPrec V n i k = p i k := by
  obtain ⟨a, b, c, d, ⟨ha, hb, hc, hd⟩, hu⟩ := normalized _ _ _ _ h
  obtain ⟨R, hR⟩ := rot_real a b c d
  obtain ⟨e0, h0⟩ := inv_real (sca V n 0)
  obtain ⟨e1, h1⟩ := inv_real (sca V n 1)
  obtain ⟨e2, h2⟩ := inv_real (sca V n 2)
  have hd' : ∀ x : Fin 3, inv (sca V n x) = ((![e0, e1, e2] x : ℝ) : EReal) := by
    intro x; fin_cases x
    · exact h0
    · exact h1
    · exact h2
  have hk : kerPrec V n = prec (rot a b c d) (inv (sca V n 0)) (inv (sca V n 1)) (inv (sca V n 2)) := by
    unfold kerPrec precOf
    rw [ha, hb, hc, hd]
  have o0 : once V n 0 = a := ha
  have o1 : once V n 1 = b := hb
  have o2 : once V n 2 = c := hc
  have o3 : once V n 3 = d := hd
  have hr : refRot V n = rot a b c d := by
    unfold refRot twice
    rw [o0, o1, o2, o3, normalized_again hu (.inl rfl), normalized_again hu (.inr (.inl rfl)),
      normalized_again hu (.inr (.inr (.inl rfl))), normalized_again hu (.inr (.inr (.inr rfl)))]
  have hp := fun i k => prec_sum hR (d := fun x => inv (sca V n x)) hd' i k
  refine ⟨_, ?_, fun i k => by rw [hk]; exact (hp i k).2⟩
  funext i k
  rw [hk, ← (hp i k).1]
  unfold refPrec
  refine Finset.sum_congr rfl fun x _ => ?_
  rw [hr, spos_eq, floor_again]
  unfold Cert.Value.inv
  rw [EReal.coe_one]

/-- What one point adds to one voxel. -/
theorem point_at (h : Normal V n) (ch : Fin 2) (z y x : Fin 128) :
    (∑ i, ∑ j, ∑ k, if (flatWord (word (ctr V n 0) i) (word (ctr V n 1) j) (word (ctr V n 2) k)).toInt = ((z.val * 16384 + y.val * 128 + x.val : ℕ) : ℤ)
      then refWeight V n i j k * amp V n ch else 0)
      = kerWeight V n (((z.val : ℤ) : ℝ) : EReal) (((y.val : ℤ) : ℝ) : EReal) (((x.val : ℤ) : ℝ) : EReal) * amp V n ch := by
  obtain ⟨p, hP, hp⟩ := refPrec_eq V n h
  unfold kerWeight
  rw [weight_eq hp]
  refine (window_sum (ctr V n 0) (ctr V n 1) (ctr V n 2) (refReach V n) (amp V n ch)
    (fun rz ry rx => Ideal.exp (((-1 / 2 : ℝ) : EReal) * quadRef (refPrec V n) (rz - ctr V n 0) (ry - ctr V n 1) (rx - ctr V n 2)))
    (micro ≤ Ideal.sqrt (amp V n 0 * amp V n 0 + amp V n 1 * amp V n 1) ∧ milli ≤ refReach V n) z y x).trans ?_
  rw [refReach_eq, hP, loud_iff]
  by_cases hm : (ax (ctr V n 0) (reach (sca V n 0) (sca V n 1) (sca V n 2)) (((z.val : ℤ) : ℝ) : EReal)
      ∧ ax (ctr V n 1) (reach (sca V n 0) (sca V n 1) (sca V n 2)) (((y.val : ℤ) : ℝ) : EReal)
      ∧ ax (ctr V n 2) (reach (sca V n 0) (sca V n 1) (sca V n 2)) (((x.val : ℤ) : ℝ) : EReal)) ∧ loud (amp V n 0) (amp V n 1)
  · rw [if_pos hm, if_pos ⟨hm.1, hm.2, reach_ge _ _ _⟩]
  · rw [if_neg hm, if_neg (fun hm' => hm ⟨hm'.1, hm'.2.1⟩), zero_mul]

/-- The reference's result at a voxel. -/
theorem result_sum (h : ∀ n, Normal V n) (ch : Fin 2) (z y x : Fin 128) :
    result V (ix4 ch z y x)
      = ∑ n, kerWeight V n (((z.val : ℤ) : ℝ) : EReal) (((y.val : ℤ) : ℝ) : EReal) (((x.val : ℤ) : ℝ) : EReal) * amp V n ch := by
  rw [result_at]
  exact Finset.sum_congr rfl fun n _ => point_at V n (h n) ch z y x

/-- Every execution of the reference leaves `result` in its result and its arguments as launched. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v297) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold result; rfl), (h c).2⟩) (Cert.ReferenceIdeal.Value.run m ρ)

end Cert.ReferenceIdeal.Hand

end
-- ==== Proof.Algebraic.lean ====
module

public import proofs.«01_k».proof.Defs
public import proofs.«01_k».proof.Proof.KernelVolume
public import proofs.«01_k».proof.Proof.RefPoint

@[expose] public section

set_option maxRecDepth 16384

/-! # The kernel's ideal result is the reference's -/

noncomputable section

namespace Cert.Value

open Idealize.ShloMosaic Idealize.ShloMosaic.Tactic Idealize.ShloMosaic.StableHlo Idealize.SL.Sem

/-- The side conditions of the precondition's operations. -/
theorem pre_facts : Cert.Pre_quaternions_zero_or_long.Facts where
  reducesTo_S16384x4_S16384_d1 := by decide
  h_S_ := by decide
  bcast_S_S16384 := by decide

attribute [local instance] pre_facts Cert.KernelIdeal.Gen.facts Cert.ReferenceIdeal.Gen.facts

/-- Two comparisons joined bit by bit hold where one of them does. -/
theorem or_word (p q : Prop) [Decidable p] [Decidable q] :
    IntOp.ori (BitVec.ofBool (decide p)) (BitVec.ofBool (decide q)) = 1#1 ↔ p ∨ q := by
  by_cases hp : p <;> by_cases hq : q <;> simp [hp, hq, IntOp.ori]

/-- The precondition, at one point. -/
theorem pre_at (a0 a1 : FVec Ideal ⟨2, ![16384, 3]⟩ .f32) (q : FVec Ideal ⟨2, ![16384, 4]⟩ .f32) (a3 : FVec Ideal ⟨2, ![16384, 2]⟩ .f32)
    (h : Cert.Pre_quaternions_zero_or_long.fn (F := Ideal) a0 a1 q a3 = fun _ => 1#1) (n : Fin 16384) :
    Ideal.sqrt ((q (ix2 n 0) : EReal) * q (ix2 n 0) + q (ix2 n 1) * q (ix2 n 1) + q (ix2 n 2) * q (ix2 n 2) + q (ix2 n 3) * q (ix2 n 3)) = 0
      ∨ micro ≤ Ideal.sqrt ((q (ix2 n 0) : EReal) * q (ix2 n 0) + q (ix2 n 1) * q (ix2 n 1) + q (ix2 n 2) * q (ix2 n 2) + q (ix2 n 3) * q (ix2 n 3)) := by
  have h1 := congrFun h (ix1 n)
  revert h1
  simp only [Cert.Pre_quaternions_zero_or_long.fn, Cert.Pre_quaternions_zero_or_long.fn_norm]
  clean_types
  pointwise
  rw [ofBits_micro, Fin.sum_univ_four]
  exact (or_word _ _).mp

/-- With equal arguments, satisfying the precondition, the two results are equal. -/
theorem results_eq (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (hpre : ∀ n, Cert.ReferenceIdeal.Hand.Normal V n) :
    Cert.ReferenceIdeal.Hand.result V = Cert.KernelIdeal.Hand.volume m c := by
  have e0 : ∀ n k, Cert.ReferenceIdeal.Hand.cen V n k = Cert.KernelIdeal.Hand.kcen m c n k := fun n k => congrFun h0 (ix2 n k)
  have e1 : ∀ n k, Cert.ReferenceIdeal.Hand.sca V n k = Cert.KernelIdeal.Hand.ksca m c n k := fun n k => congrFun h1 (ix2 n k)
  have e2 : ∀ n k, Cert.ReferenceIdeal.Hand.qua V n k = Cert.KernelIdeal.Hand.kqua m c n k := fun n k => congrFun h2 (ix2 n k)
  have e3 : ∀ n k, Cert.ReferenceIdeal.Hand.amp V n k = Cert.KernelIdeal.Hand.kamp m c n k := fun n k => congrFun h3 (ix2 n k)
  funext i
  obtain ⟨ch, z, y, x, rfl⟩ : ∃ (ch : Fin 2) (z y x : Fin 128), i = ix4 ch z y x := ⟨i 0, i 1, i 2, i 3, by idx_vars i⟩
  refine (Cert.ReferenceIdeal.Hand.result_sum V hpre ch z y x).trans ((Finset.sum_congr rfl fun n _ => ?_).trans (Cert.KernelIdeal.Hand.volume_at m c ch z y x).symm)
  unfold Cert.ReferenceIdeal.Hand.kerWeight Cert.ReferenceIdeal.Hand.kerPrec Cert.ReferenceIdeal.Hand.ctr Cert.KernelIdeal.Hand.kw
  rw [e0, e0, e0, e1, e1, e1, e2, e2, e2, e2, e3, e3, e3]

/-- The value claim: from equal arguments that satisfy the precondition, the kernel and the reference end with equal results. -/
theorem algebraic : Cert.algebraic_KernelIdeal_ReferenceIdeal_pre_quaternions_zero_or_long := by
  intro m g m' g' hpre harg
  refine ⟨fun c => Cert.KernelIdeal.Hand.volume m c, Cert.KernelIdeal.Hand.run_volume m g, ?_⟩
  refine (θ_run Cert.ReferenceIdeal.defs _ _).mono (fun r h c => ⟨(h c).1.trans ?_, (h c).2⟩) (Cert.ReferenceIdeal.Hand.run_result m' g')
  obtain ⟨h0, h1, h2, h3⟩ := harg c
  refine results_eq m c (launchContents m' c) h0 h1 h2 h3 fun n => ?_
  have hq : ∀ k, Cert.ReferenceIdeal.Hand.qua (launchContents m' c) n k = m ((c.tc : Thread Cert.KernelIdeal.nD Cert.KernelIdeal.τ).loc Cert.KernelIdeal.main_arg2) (ix2 n k) :=
    fun k => congrFun h2 (ix2 n k)
  unfold Cert.ReferenceIdeal.Hand.Normal
  rw [hq, hq, hq, hq]
  exact pre_at _ _ _ _ (hpre c) n

end Cert.Value

end
-- ==== Proof.lean ====
module

public import proofs.«01_k».proof.Defs
public import proofs.«01_k».proof.Proof.KernelFrame
public import proofs.«01_k».proof.Proof.KernelIdealFrame
public import proofs.«01_k».proof.Proof.ReferenceFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three constants that the idealization names have the values that the table gives them. -/
theorem preserves : Cert.preserves_Kernel_KernelIdeal :=
  ⟨IdealRules.named_const.statement Cert.KernelIdeal.κ "amplitude_floor_sq" .f32 0x2B8CBCCC#32
      ((77371252064649 / 77371252455336267181195264 : ℝ) : EReal) rfl,
    IdealRules.named_const.statement Cert.KernelIdeal.κ "neg_half_log2e" .f32 0xBF38AA3B#32
      (((-1 / 2) * (Real.log 2)⁻¹ : ℝ) : EReal) rfl,
    IdealRules.named_const.statement Cert.KernelIdeal.κ "exponent_floor" .f32 0xC2F00000#32 ⊥ rfl⟩

/-- Everything the certificate claims. -/
theorem claim : Cert.Claim :=
  ⟨Cert.Kernel.Gen.facts, Cert.KernelIdeal.Gen.facts, Cert.ReferenceIdeal.Gen.facts, Cert.Value.pre_facts,
    fun m g _ => Cert.Kernel.Hand.frame m g, fun m g _ => Cert.KernelIdeal.Hand.frame m g,
    fun m g _ => Cert.KernelIdeal.Hand.frame m g,
    fun m g _ => Cert.ReferenceIdeal.Hand.frame m g, fun m g _ => Cert.ReferenceIdeal.Hand.frame m g,
    preserves, Cert.Value.algebraic⟩

end Cert.Proof

end
